-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_nonneg [hPre_weights_nonneg : Cert.Pre_weights_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_weights_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_nonneg [hPre_weights_nonneg : Cert.Pre_weights_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_weights_nonneg_sample [hPre_weights_nonneg_sample : Cert.Pre_weights_nonneg_sample.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_weights_nonneg_sample.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_weights_nonneg_sample [hPre_weights_nonneg_sample : Cert.Pre_weights_nonneg_sample.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_weights_nonneg_sample.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_weights_nonneg [hKernelIdeal : Cert.KernelIdeal.Facts] [hPre_weights_nonneg : Cert.Pre_weights_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_weights_nonneg [hReferenceIdeal : Cert.ReferenceIdeal.Facts] [hPre_weights_nonneg : Cert.Pre_weights_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_weights_nonneg_sample [hKernel9Ideal : Cert.Kernel9Ideal.Facts] [hPre_weights_nonneg_sample : Cert.Pre_weights_nonneg_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_weights_nonneg_sample m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_weights_nonneg_sample [hReference9Ideal : Cert.Reference9Ideal.Facts] [hPre_weights_nonneg_sample : Cert.Pre_weights_nonneg_sample.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_weights_nonneg_sample m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal_pre_weights_nonneg [hKernelIdeal : Cert.KernelIdeal.Facts] [hReferenceIdeal : Cert.ReferenceIdeal.Facts] [hPre_weights_nonneg : Cert.Pre_weights_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v161) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_weights_nonneg_sample [hKernel9Ideal : Cert.Kernel9Ideal.Facts] [hReference9Ideal : Cert.Reference9Ideal.Facts] [hPre_weights_nonneg_sample : Cert.Pre_weights_nonneg_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_weights_nonneg_sample m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_weights_nonneg : Cert.Pre_weights_nonneg.Facts) (hPre_weights_nonneg_sample : Cert.Pre_weights_nonneg_sample.Facts),
    quiescent_Kernel (hKernel := hKernel)
    ∧ quiescent_KernelIdeal (hKernelIdeal := hKernelIdeal)
    ∧ quiescent_KernelIdeal_pre_weights_nonneg (hKernelIdeal := hKernelIdeal) (hPre_weights_nonneg := hPre_weights_nonneg)
    ∧ quiescent_ReferenceIdeal (hReferenceIdeal := hReferenceIdeal)
    ∧ quiescent_ReferenceIdeal_pre_weights_nonneg (hReferenceIdeal := hReferenceIdeal) (hPre_weights_nonneg := hPre_weights_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_weights_nonneg_sample (hKernel9Ideal := hKernel9Ideal) (hPre_weights_nonneg_sample := hPre_weights_nonneg_sample)
    ∧ quiescent_Reference9Ideal (hReference9Ideal := hReference9Ideal)
    ∧ quiescent_Reference9Ideal_pre_weights_nonneg_sample (hReference9Ideal := hReference9Ideal) (hPre_weights_nonneg_sample := hPre_weights_nonneg_sample)
    ∧ preserves_Kernel_KernelIdeal
    ∧ algebraic_KernelIdeal_ReferenceIdeal_pre_weights_nonneg (hKernelIdeal := hKernelIdeal) (hReferenceIdeal := hReferenceIdeal) (hPre_weights_nonneg := hPre_weights_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_weights_nonneg_sample (hKernel9Ideal := hKernel9Ideal) (hReference9Ideal := hReference9Ideal) (hPre_weights_nonneg_sample := hPre_weights_nonneg_sample)
-- ==== Pre_weights_nonneg.lean ====
abbrev S8x2048x1024 : Shape := ⟨3, ![8, 2048, 1024]⟩
abbrev S8x1x1024 : Shape := ⟨3, ![8, 1, 1024]⟩
abbrev S8x2048x64 : Shape := ⟨3, ![8, 2048, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x1024 .f32) (main_arg1 : FVec F S8x1x1024 .f32) (main_arg2 : FVec F S8x2048x1024 .bf16) (main_arg3 : FVec F S8x2048x64 .f32) (main_arg4 : FVec F S64x1024x256 .f32) (main_arg5 : FVec F S64x1024x256 .f32) (main_arg6 : FVec F S64x256x1024 .f32) (main_arg7 : FVec F S1024x256 .f32) (main_arg8 : FVec F S1024x256 .f32) (main_arg9 : FVec F S256x1024 .f32) (main_arg10 : FVec F S1024 .f32) : IVec S_ 1 :=
  let main_cst : FVec F S_ .f32 := constant S_ .f32 0x00000000#32
  let main_v0 : FVec F S8x2048x64 .f32 := broadcastInDim S8x2048x64 ![] bcast_S_S8x2048x64 main_cst
  let main_v1 : IVec S8x2048x64 1 := cmpf .oge main_arg3 main_v0
  let main_cst_0 : FVec F S_ .f32 := constant S_ .f32 0x7F800000#32
  let main_v2 : FVec F S8x2048x64 .f32 := broadcastInDim S8x2048x64 ![] bcast_S_S8x2048x64 main_cst_0
  let main_v3 : IVec S8x2048x64 1 := cmpf .olt main_arg3 main_v2
  let main_v4 : IVec S8x2048x64 1 := andi main_v1 main_v3
  let main_c : IVec S_ 1 := constantI S_ 1 1#1
  let main_v5 : IVec S_ 1 := (fun x v => Host.reduce IntOp.andi x v reducesTo_S8x2048x64_S_d0_1_2 h_S_) main_v4 main_c
  main_v5
-- ==== Pre_weights_nonneg_sample.lean ====
abbrev S1x256x1024 : Shape := ⟨3, ![1, 256, 1024]⟩
abbrev S1x256x64 : Shape := ⟨3, ![1, 256, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩

class Facts : Prop where
  bcast_S_S1x256x64 : S_.BroadcastsInDim S1x256x64 (![] : Fin 0 → Fin S1x256x64.rank)
  reducesTo_S1x256x64_S_d0_1_2 : S1x256x64.ReducesTo [0, 1, 2] S_
  h_S_ : 0 < S_.numel

variable [Facts]

def fn {F : FTy → Type} [FloatOps F] (main_arg0 : FVec F S1x256x1024 .f32) (main_arg1 : FVec F S1x256x1024 .f32) (main_arg2 : FVec F S1x256x1024 .bf16) (main_arg3 : FVec F S1x256x64 .f32) (main_arg4 : FVec F S64x1024x256 .f32) (main_arg5 : FVec F S64x1024x256 .f32) (main_arg6 : FVec F S64x256x1024 .f32) (main_arg7 : FVec F S1024x256 .f32) (main_arg8 : FVec F S1024x256 .f32) (main_arg9 : FVec F S256x1024 .f32) (main_arg10 : FVec F S1024 .f32) : IVec S_ 1 :=
  let main_cst : FVec F S_ .f32 := constant S_ .f32 0x00000000#32
  let main_v0 : FVec F S1x256x64 .f32 := broadcastInDim S1x256x64 ![] bcast_S_S1x256x64 main_cst
  let main_v1 : IVec S1x256x64 1 := cmpf .oge main_arg3 main_v0
  let main_cst_0 : FVec F S_ .f32 := constant S_ .f32 0x7F800000#32
  let main_v2 : FVec F S1x256x64 .f32 := broadcastInDim S1x256x64 ![] bcast_S_S1x256x64 main_cst_0
  let main_v3 : IVec S1x256x64 1 := cmpf .olt main_arg3 main_v2
  let main_v4 : IVec S1x256x64 1 := andi main_v1 main_v3
  let main_c : IVec S_ 1 := constantI S_ 1 1#1
  let main_v5 : IVec S_ 1 := (fun x v => Host.reduce IntOp.andi x v reducesTo_S1x256x64_S_d0_1_2 h_S_) main_v4 main_c
  main_v5
-- ==== Kernel.lean ====
abbrev S8x2048x1024 : Shape := ⟨3, ![8, 2048, 1024]⟩
abbrev S8x1x1024 : Shape := ⟨3, ![8, 1, 1024]⟩
abbrev S8x2048x64 : Shape := ⟨3, ![8, 2048, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S1x1024x1024 : Shape := ⟨3, ![1, 1024, 1024]⟩
abbrev S1x1024x64 : Shape := ⟨3, ![1, 1024, 64]⟩
abbrev S1x1024x256 : Shape := ⟨3, ![1, 1024, 256]⟩
abbrev S1x256x1024 : Shape := ⟨3, ![1, 256, 1024]⟩
abbrev S1x1x1024 : Shape := ⟨3, ![1, 1, 1024]⟩
abbrev S1024x1024 : Shape := ⟨2, ![1024, 1024]⟩
abbrev S1024x64 : Shape := ⟨2, ![1024, 64]⟩
abbrev S1024x1 : Shape := ⟨2, ![1024, 1]⟩

abbrev nBuf : Space → Nat
  | .hbm => 19
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x1024, .bf16⟩
  | .hbm, ⟨3, _⟩ => ⟨S8x2048x64, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1024, .f32⟩
  | .hbm, ⟨11, _⟩ => ⟨S64x1024x256, .bf16⟩
  | .hbm, ⟨12, _⟩ => ⟨S64x1024x256, .bf16⟩
  | .hbm, ⟨13, _⟩ => ⟨S64x256x1024, .bf16⟩
  | .hbm, ⟨14, _⟩ => ⟨S1024x256, .bf16⟩
  | .hbm, ⟨15, _⟩ => ⟨S1024x256, .bf16⟩
  | .hbm, ⟨16, _⟩ => ⟨S256x1024, .bf16⟩
  | .hbm, ⟨17, _⟩ => ⟨S1x1024, .f32⟩
  | .hbm, ⟨18, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x64, .f32⟩
  | .local _ .vmem, ⟨3, _⟩ => ⟨S1x1024x64, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 2, 64], ![false, false, false]⟩

def k0_cond2 (i : grid0.Coords) : BitVec 1 :=
  let arg2 : BitVec 32 := BitVec.ofNat 32 (i 2).val
  let c63_i32 : BitVec 32 := 63#32
  let v34 : BitVec 1 := Scalar.cmpi .eq arg2 c63_i32
  let v35 : BitVec 32 := Scalar.extui v34
  let c0_i32_23 : BitVec 32 := 0#32
  let v36 : BitVec 1 := Scalar.cmpi .ne v35 c0_i32_23
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S8x2048x1024 : Shape := ⟨3, ![8, 2048, 1024]⟩
abbrev S8x1x1024 : Shape := ⟨3, ![8, 1, 1024]⟩
abbrev S8x2048x64 : Shape := ⟨3, ![8, 2048, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S16384x1024 : Shape := ⟨2, ![16384, 1024]⟩
abbrev S16384x64 : Shape := ⟨2, ![16384, 64]⟩
abbrev S16384x256 : Shape := ⟨2, ![16384, 256]⟩
abbrev S_ : Shape := ⟨0, ![]⟩
abbrev S64x16384 : Shape := ⟨2, ![64, 16384]⟩
abbrev S1x1024x256 : Shape := ⟨3, ![1, 1024, 256]⟩
abbrev S1x256x1024 : Shape := ⟨3, ![1, 256, 1024]⟩
abbrev S1x16384 : Shape := ⟨2, ![1, 16384]⟩
abbrev S16384 : Shape := ⟨1, ![16384]⟩
abbrev S16384x1 : Shape := ⟨2, ![16384, 1]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x1024, .bf16⟩
  | .hbm, ⟨3, _⟩ => ⟨S8x2048x64, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1024, .f32⟩
  | .hbm, ⟨11, _⟩ => ⟨S8x2048x1024, .f32⟩
  | .hbm, ⟨12, _⟩ => ⟨S16384x1024, .f32⟩
  | .hbm, ⟨13, _⟩ => ⟨S16384x64, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S_, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x1024, .f32⟩
  | .hbm, ⟨27, _⟩ => ⟨S64x16384, .f32⟩
  | .hbm, ⟨28, _⟩ => ⟨S_, .i32⟩
  | .hbm, ⟨29, _⟩ => ⟨S64x1024x256, .f32⟩
  | .hbm, ⟨30, _⟩ => ⟨S64x1024x256, .f32⟩
  | .hbm, ⟨31, _⟩ => ⟨S64x256x1024, .f32⟩
  | .hbm, ⟨32, _⟩ => ⟨S64x16384, .f32⟩
  | .hbm, ⟨33, _⟩ => ⟨S16384x1024, .f32⟩
  | .hbm, ⟨34, _⟩ => ⟨S_, .i32⟩
  | .hbm, ⟨35, _⟩ => ⟨S16384x1024, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S1x1024x256, .f32⟩
  | .hbm, ⟨41, _⟩ => ⟨S1024x256, .f32⟩
  | .hbm, ⟨42, _⟩ => ⟨S_, .i32⟩
  | .hbm, ⟨43, _⟩ => ⟨S_, .i32⟩
  | .hbm, ⟨44, _⟩ => ⟨S1x1024x256, .f32⟩
  | .hbm, ⟨45, _⟩ => ⟨S1024x256, .f32⟩
  | .hbm, ⟨46, _⟩ => ⟨S_, .i32⟩
  | .hbm, ⟨47, _⟩ => ⟨S_, .i32⟩
  | .hbm, ⟨48, _⟩ => ⟨S1x256x1024, .f32⟩
  | .hbm, ⟨49, _⟩ => ⟨S256x1024, .f32⟩
  | .hbm, ⟨50, _⟩ => ⟨S_, .i32⟩
  | .hbm, ⟨51, _⟩ => ⟨S1x16384, .f32⟩
  | .hbm, ⟨52, _⟩ => ⟨S16384, .f32⟩
  | .hbm, ⟨53, _⟩ => ⟨S16384x1, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S_, .f32⟩
  | .hbm, ⟨58, _⟩ => ⟨S16384x256, .f32⟩
  | .hbm, ⟨59, _⟩ => ⟨S16384x256, .f32⟩
  | .hbm, ⟨60, _⟩ => ⟨S_, .f32⟩
  | .hbm, ⟨61, _⟩ => ⟨S16384x256, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .i32⟩
  | .hbm, ⟨71, _⟩ => ⟨S_, .i32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x1, .f32⟩
  | .hbm, ⟨87, _⟩ => ⟨S8x2048x1024, .f32⟩
  | .hbm, ⟨88, _⟩ => ⟨S8x2048x1024, .f32⟩
  | .hbm, ⟨89, _⟩ => ⟨S1x1x1024, .f32⟩
  | .hbm, ⟨90, _⟩ => ⟨S8x2048x1024, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v9_4 : Ref sig .tc := ⟨.hbm, 33, rfl⟩
abbrev main_v9_5 : Ref sig .tc := ⟨.hbm, 34, rfl⟩
abbrev main_v9_6 : Ref sig .tc := ⟨.hbm, 35, rfl⟩
abbrev main_while0c_c_8 : Ref sig .tc := ⟨.hbm, 36, rfl⟩
abbrev main_while0c_v27 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v27 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_v0 : Ref sig .tc := ⟨.hbm, 44, rfl⟩
abbrev main_while0b_v28 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_v0 : Ref sig .tc := ⟨.hbm, 48, rfl⟩
abbrev main_while0b_v29 : Ref sig .tc := ⟨.hbm, 49, rfl⟩
abbrev main_while0b_call4_c : Ref sig .tc := ⟨.hbm, 50, rfl⟩
abbrev main_while0b_call4_v0 : Ref sig .tc := ⟨.hbm, 51, rfl⟩
abbrev main_while0b_v30 : Ref sig .tc := ⟨.hbm, 52, rfl⟩
abbrev main_while0b_v31 : Ref sig .tc := ⟨.hbm, 53, rfl⟩
abbrev main_while0b_v32 : Ref sig .tc := ⟨.hbm, 54, rfl⟩
abbrev main_while0b_call5_v0 : Ref sig .tc := ⟨.hbm, 55, rfl⟩
abbrev main_while0b_call5_v1 : Ref sig .tc := ⟨.hbm, 56, rfl⟩
abbrev main_while0b_call5_cst : Ref sig .tc := ⟨.hbm, 57, rfl⟩
abbrev main_while0b_call5_v2 : Ref sig .tc := ⟨.hbm, 58, rfl⟩
abbrev main_while0b_call5_v3 : Ref sig .tc := ⟨.hbm, 59, rfl⟩
abbrev main_while0b_call5_cst_0 : Ref sig .tc := ⟨.hbm, 60, rfl⟩
abbrev main_while0b_call5_v4 : Ref sig .tc := ⟨.hbm, 61, rfl⟩
abbrev main_while0b_call5_v5 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_c_8 : Ref sig .tc := ⟨.hbm, 70, rfl⟩
abbrev main_while0b_v40 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_cst : Ref sig .tc := ⟨.hbm, 77, rfl⟩
abbrev main_v15 : Ref sig .tc := ⟨.hbm, 78, rfl⟩
abbrev main_v16 : Ref sig .tc := ⟨.hbm, 79, rfl⟩
abbrev main_cst_0 : Ref sig .tc := ⟨.hbm, 80, rfl⟩
abbrev main_v17 : Ref sig .tc := ⟨.hbm, 81, rfl⟩
abbrev main_v18 : Ref sig .tc := ⟨.hbm, 82, rfl⟩
abbrev main_cst_1 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x2048x2048 : Shape := ⟨3, ![8, 2048, 2048]⟩
abbrev S8x8x64x64 : Shape := ⟨4, ![8, 8, 64, 64]⟩
abbrev S512 : Shape := ⟨1, ![512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8 : Shape := ⟨1, ![8]⟩
abbrev S8x4x2x64x64 : Shape := ⟨5, ![8, 4, 2, 64, 64]⟩
abbrev S8x4x1x64x64 : Shape := ⟨5, ![8, 4, 1, 64, 64]⟩
abbrev S8x4x64x64 : Shape := ⟨4, ![8, 4, 64, 64]⟩
abbrev S8x4x64x128 : Shape := ⟨4, ![8, 4, 64, 128]⟩
abbrev S8x4x128x128 : Shape := ⟨4, ![8, 4, 128, 128]⟩
abbrev S1x512 : Shape := ⟨2, ![1, 512]⟩
abbrev S8x2048x512 : Shape := ⟨3, ![8, 2048, 512]⟩
abbrev S1x128x128 : Shape := ⟨3, ![1, 128, 128]⟩
abbrev S128x128 : Shape := ⟨2, ![128, 128]⟩
abbrev S1x128 : Shape := ⟨2, ![1, 128]⟩
abbrev S1x1x128x128 : Shape := ⟨4, ![1, 1, 128, 128]⟩
abbrev S1 : Shape := ⟨1, ![1]⟩
abbrev S128 : Shape := ⟨1, ![128]⟩
abbrev S128x1 : Shape := ⟨2, ![128, 1]⟩

abbrev nBuf : Space → Nat
  | .hbm => 51
  | .vmem => 23
  | .smem => 1
  | _ => 0

abbrev bufTy : (tb : Table) → Fin (tcTables nBuf tb) → BufTy
  | .hbm, ⟨0, _⟩ => ⟨S8x2048x2048, .f32⟩
  | .hbm, ⟨1, _⟩ => ⟨S8x8x64x64, .f32⟩
  | .hbm, ⟨2, _⟩ => ⟨S512, .f32⟩
  | .hbm, ⟨3, _⟩ => ⟨S512, .f32⟩
  | .hbm, ⟨4, _⟩ => ⟨S2048, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x128, .f32⟩
  | .hbm, ⟨22, _⟩ => ⟨S2048x32, .f32⟩
  | .hbm, ⟨23, _⟩ => ⟨S2048x32, .f32⟩
  | .hbm, ⟨24, _⟩ => ⟨S2048x128, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8x4x2x64x64, .f32⟩
  | .hbm, ⟨36, _⟩ => ⟨S8x4x1x64x64, .f32⟩
  | .hbm, ⟨37, _⟩ => ⟨S8x4x64x64, .f32⟩
  | .hbm, ⟨38, _⟩ => ⟨S_, .f32⟩
  | .hbm, ⟨39, _⟩ => ⟨S8x4x64x64, .f32⟩
  | .hbm, ⟨40, _⟩ => ⟨S8x4x1x64x64, .f32⟩
  | .hbm, ⟨41, _⟩ => ⟨S8x4x64x64, .f32⟩
  | .hbm, ⟨42, _⟩ => ⟨S8x4x64x128, .f32⟩
  | .hbm, ⟨43, _⟩ => ⟨S8x4x1x64x64, .f32⟩
  | .hbm, ⟨44, _⟩ => ⟨S8x4x64x64, .f32⟩
  | .hbm, ⟨45, _⟩ => ⟨S8x4x64x128, .f32⟩
  | .hbm, ⟨46, _⟩ => ⟨S8x4x128x128, .f32⟩
  | .hbm, ⟨47, _⟩ => ⟨S1x512, .f32⟩
  | .hbm, ⟨48, _⟩ => ⟨S1x512, .f32⟩
  | .hbm, ⟨49, _⟩ => ⟨S8x2048x512, .f32⟩
  | .hbm, ⟨50, _⟩ => ⟨S8x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x1x128x128, .f32⟩
  | .local _ .vmem, ⟨17, _⟩ => ⟨S1x1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x1x128x128, .f32⟩
  | .local _ .vmem, ⟨21, _⟩ => ⟨S1x1x128x128, .f32⟩
  | .local _ .vmem, ⟨22, _⟩ => ⟨S128x128, .f32⟩
  | .local _ .smem, ⟨0, _⟩ => ⟨S8, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![8, 4, 16], ![false, false, false]⟩

def k0_off1 (i : grid0.Coords) : Fin 1 → Nat :=
  let c2_i32 : BitVec 32 := 2#32
  let arg1 : BitVec 32 := BitVec.ofNat 32 (i 1).val
  let v24 : BitVec 32 := Scalar.muli c2_i32 arg1
  let v25 : Index := Scalar.indexCast v24
  ![v25.toNat]
def k0_off2 (i : grid0.Coords) : Fin 1 → Nat :=
  let c2_i32_6 : BitVec 32 := 2#32
  let arg1 : BitVec 32 := BitVec.ofNat 32 (i 1).val
  let v27 : BitVec 32 := Scalar.muli c2_i32_6 arg1
  let c1_i32_7 : BitVec 32 := 1#32
  let v28 : BitVec 32 := Scalar.addi v27 c1_i32_7
  let v29 : Index := Scalar.indexCast v28
  ![v29.toNat]
def k0_cond2 (i : grid0.Coords) : BitVec 1 :=
  let arg2 : BitVec 32 := BitVec.ofNat 32 (i 2).val
  let c15_i32 : BitVec 32 := 15#32
  let v187 : BitVec 1 := Scalar.cmpi .eq arg2 c15_i32
  let v188 : BitVec 32 := Scalar.extui v187
  let c0_i32_68 : BitVec 32 := 0#32
  let v189 : BitVec 1 := Scalar.cmpi .ne v188 c0_i32_68
  v189

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference2Ideal.lean ====
abbrev S8x2048x2048 : Shape := ⟨3, ![8, 2048, 2048]⟩
abbrev S8x8x64x64 : Shape := ⟨4, ![8, 8, 64, 64]⟩
abbrev S512 : Shape := ⟨1, ![512]⟩
abbrev S2048 : Shape := ⟨1, ![2048]⟩
abbrev S8x2048x512 : Shape := ⟨3, ![8, 2048, 512]⟩
abbrev S8x2048x8x64 : Shape := ⟨4, ![8, 2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x16x128x8x64 : Shape := ⟨5, ![8, 16, 128, 8, 64]⟩
abbrev S16x8x128x8x64 : Shape := ⟨5, ![16, 8, 128, 8, 64]⟩
abbrev S1x8x128x8x64 : Shape := ⟨5, ![1, 8, 128, 8, 64]⟩
abbrev S8x128x8x64 : Shape := ⟨4, ![8, 128, 8, 64]⟩
abbrev S8x8x128x128 : Shape := ⟨4, ![8, 8, 128, 128]⟩
abbrev S1x8x128x128 : Shape := ⟨4, ![1, 8, 128, 128]⟩
abbrev S8x8x64x128 : Shape := ⟨4, ![8, 8, 64, 128]⟩
abbrev S128x8 : Shape := ⟨2, ![128, 8]⟩
abbrev S1x128x8x1 : Shape := ⟨4, ![1, 128, 8, 1]⟩
abbrev S1x8x1x1 : Shape := ⟨4, ![1, 8, 1, 1]⟩
abbrev S8x64 : Shape := ⟨2, ![8, 64]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩
abbrev S8x4x2x64x64 : Shape := ⟨5, ![8, 4, 2, 64, 64]⟩
abbrev S8x4x1x64x64 : Shape := ⟨5, ![8, 4, 1, 64, 64]⟩
abbrev S8x4x64x64 : Shape := ⟨4, ![8, 4, 64, 64]⟩
abbrev S8x4x64x128 : Shape := ⟨4, ![8, 4, 64, 128]⟩
abbrev S8x4x128x128 : Shape := ⟨4, ![8, 4, 128, 128]⟩

abbrev nBuf : Space → Nat
  | .hbm => 257
  | .vmem => 0
  | .smem => 0
  | _ => 0

abbrev hbmTy0_0 (i : Nat) : BufTy := match i % 128 with
  | 0 => ⟨S8x2048x2048, .f32⟩
  | 1 => ⟨S8x8x64x64, .f32⟩
  | 2 => ⟨S512, .f32⟩
  | 3 => ⟨S512, .f32⟩
  | 4 => ⟨S2048, .i32⟩
  | 5 => ⟨S8x2048x512, .f32⟩
  | 6 => ⟨S8x2048x512, .f32⟩
  | 7 => ⟨S8x2048x512, .f32⟩
  | 8 => ⟨S8x2048x8x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S1x2048x1x32, .f32⟩
  | 25 => ⟨S2048x32, .f32⟩
  | 26 => ⟨S1x2048x1x32, .f32⟩
  | 27 => ⟨S8x2048x8x32, .f32⟩
  | 28 => ⟨S8x2048x8x32, .f32⟩
  | 29 => ⟨S8x2048x8x32, .f32⟩
  | 30 => ⟨S8x2048x8x32, .f32⟩
  | 31 => ⟨S8x2048x8x32, .f32⟩
  | 32 => ⟨S8x2048x8x32, .f32⟩
  | 33 => ⟨S8x2048x8x32, .f32⟩
  | 34 => ⟨S8x2048x8x32, .f32⟩
  | 35 => ⟨S8x2048x8x32, .f32⟩
  | 36 => ⟨S8x2048x8x32, .f32⟩
  | 37 => ⟨S8x2048x8x32, .f32⟩
  | 38 => ⟨S8x2048x8x32, .f32⟩
  | 39 => ⟨S8x2048x8x64, .f32⟩
  | 40 => ⟨S8x2048x8x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S1x2048x1x32, .f32⟩
  | 57 => ⟨S2048x32, .f32⟩
  | 58 => ⟨S1x2048x1x32, .f32⟩
  | 59 => ⟨S8x2048x8x32, .f32⟩
  | 60 => ⟨S8x2048x8x32, .f32⟩
  | 61 => ⟨S8x2048x8x32, .f32⟩
  | 62 => ⟨S8x2048x8x32, .f32⟩
  | 63 => ⟨S8x2048x8x32, .f32⟩
  | 64 => ⟨S8x2048x8x32, .f32⟩
  | 65 => ⟨S8x2048x8x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x64, .f32⟩
  | 72 => ⟨S_, .f32⟩
  | 73 => ⟨S8x2048x8x64, .f32⟩
  | 74 => ⟨S8x2048x8x64, .f32⟩
  | 75 => ⟨S8x2048x8x64, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S8x1x1, .f32⟩
  | 96 => ⟨S_, .f32⟩
  | 97 => ⟨S128x128, .f32⟩
  | 98 => ⟨S128x128, .f32⟩
  | 99 => ⟨S1x128x128, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S8x1, .f32⟩
  | 110 => ⟨S1x128, .f32⟩
  | 111 => ⟨S_, .f32⟩
  | 112 => ⟨S1x128, .f32⟩
  | 113 => ⟨S1x128, .f32⟩
  | 114 => ⟨S8x128, .f32⟩
  | 115 => ⟨S8x128, .f32⟩
  | 116 => ⟨S8x128, .f32⟩
  | 117 => ⟨S8x128, .f32⟩
  | 118 => ⟨S8x1, .f32⟩
  | 119 => ⟨S1x128, .f32⟩
  | 120 => ⟨S_, .f32⟩
  | 121 => ⟨S1x128, .f32⟩
  | 122 => ⟨S1x128, .f32⟩
  | 123 => ⟨S8x128, .f32⟩
  | 124 => ⟨S8x128, .f32⟩
  | 125 => ⟨S8x128, .f32⟩
  | 126 => ⟨S8x128, .f32⟩
  | 127 => ⟨S_, .f32⟩
  | _ => ⟨S8x2048x2048, .f32⟩

abbrev hbmTy0_1 (i : Nat) : BufTy := match i % 128 with
  | 0 => ⟨S8, .f32⟩
  | 1 => ⟨S8, .f32⟩
  | 2 => ⟨S8, .f32⟩
  | 3 => ⟨S8x16x128x8x64, .f32⟩
  | 4 => ⟨S16x8x128x8x64, .f32⟩
  | 5 => ⟨S8x16x128x8x64, .f32⟩
  | 6 => ⟨S16x8x128x8x64, .f32⟩
  | 7 => ⟨S8x16x128x8x64, .f32⟩
  | 8 => ⟨S16x8x128x8x64, .f32⟩
  | 9 => ⟨S_, .f32⟩
  | 10 => ⟨S16x8x128x8x64, .f32⟩
  | 11 => ⟨S_, .i32⟩
  | 12 => ⟨S16x8x128x8x64, .f32⟩
  | 13 => ⟨S16x8x128x8x64, .f32⟩
  | 14 => ⟨S16x8x128x8x64, .f32⟩
  | 15 => ⟨S8x128x128, .f32⟩
  | 16 => ⟨S8x128, .f32⟩
  | 17 => ⟨S8, .f32⟩
  | 18 => ⟨S8x128, .f32⟩
  | 19 => ⟨S_, .i32⟩
  | 20 => ⟨S8x8x64x64, .f32⟩
  | 21 => ⟨S16x8x128x8x64, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S1x8x128x8x64, .f32⟩
  | 29 => ⟨S8x128x8x64, .f32⟩
  | 30 => ⟨S_, .i32⟩
  | 31 => ⟨S_, .i32⟩
  | 32 => ⟨S_, .i32⟩
  | 33 => ⟨S_, .i32⟩
  | 34 => ⟨S1x8x128x8x64, .f32⟩
  | 35 => ⟨S8x128x8x64, .f32⟩
  | 36 => ⟨S_, .i32⟩
  | 37 => ⟨S_, .i32⟩
  | 38 => ⟨S_, .i32⟩
  | 39 => ⟨S_, .i32⟩
  | 40 => ⟨S1x8x128x8x64, .f32⟩
  | 41 => ⟨S8x128x8x64, .f32⟩
  | 42 => ⟨S8x8x128x128, .f32⟩
  | 43 => ⟨S1x8x128x128, .f32⟩
  | 44 => ⟨S8x8x128x128, .f32⟩
  | 45 => ⟨S8x8x128x128, .f32⟩
  | 46 => ⟨S8x8x64x128, .f32⟩
  | 47 => ⟨S8x128x8x64, .f32⟩
  | 48 => ⟨S128x8, .f32⟩
  | 49 => ⟨S1x128x8x1, .f32⟩
  | 50 => ⟨S8x128x8x64, .f32⟩
  | 51 => ⟨S8x128x8x64, .f32⟩
  | 52 => ⟨S8x8x64x128, .f32⟩
  | 53 => ⟨S8x128x8x64, .f32⟩
  | 54 => ⟨S8x128x8x64, .f32⟩
  | 55 => ⟨S1x8x1x1, .f32⟩
  | 56 => ⟨S8x8x64x64, .f32⟩
  | 57 => ⟨S8x8x64x64, .f32⟩
  | 58 => ⟨S128x8, .f32⟩
  | 59 => ⟨S1x128x8x1, .f32⟩
  | 60 => ⟨S8x128x8x64, .f32⟩
  | 61 => ⟨S8x128x8x64, .f32⟩
  | 62 => ⟨S8x8x64x64, .f32⟩
  | 63 => ⟨S8x8x64x64, .f32⟩
  | 64 => ⟨S1x8x128x8x64, .f32⟩
  | 65 => ⟨S_, .i32⟩
  | 66 => ⟨S_, .i32⟩
  | 67 => ⟨S_, .i32⟩
  | 68 => ⟨S_, .i32⟩
  | 69 => ⟨S16x8x128x8x64, .f32⟩
  | 70 => ⟨S_, .i32⟩
  | 71 => ⟨S_, .i32⟩
  | 72 => ⟨S8x16x128x8x64, .f32⟩
  | 73 => ⟨S8x2048x8x64, .f32⟩
  | 74 => ⟨S8x2048x512, .f32⟩
  | 75 => ⟨S8x64, .f32⟩
  | 76 => ⟨S8x64, .f32⟩
  | 77 => ⟨S_, .f32⟩
  | 78 => ⟨S8x2048x8, .f32⟩
  | 79 => ⟨S8x2048x8x1, .f32⟩
  | 80 => ⟨S_, .f32⟩
  | 81 => ⟨S8x2048x8x1, .f32⟩
  | 82 => ⟨S8x2048x8x1, .f32⟩
  | 83 => ⟨S8x2048x8x64, .f32⟩
  | 84 => ⟨S8x2048x8x64, .f32⟩
  | 85 => ⟨S8x2048x8x64, .f32⟩
  | 86 => ⟨S_, .f32⟩
  | 87 => ⟨S8x2048x8, .f32⟩
  | 88 => ⟨S8x2048x8x1, .f32⟩
  | 89 => ⟨S_, .f32⟩
  | 90 => ⟨S8x2048x8x1, .f32⟩
  | 91 => ⟨S8x2048x8x1, .f32⟩
  | 92 => ⟨S8x2048x8x64, .f32⟩
  | 93 => ⟨S8x2048x8x64, .f32⟩
  | 94 => ⟨S_, .f32⟩
  | 95 => ⟨S8x2048x8x1, .f32⟩
  | 96 => ⟨S8x2048x8x1, .f32⟩
  | 97 => ⟨S8x2048x8x1, .f32⟩
  | 98 => ⟨S8x2048x8x64, .f32⟩
  | 99 => ⟨S8x2048x8x64, .f32⟩
  | 100 => ⟨S1x1x8x64, .f32⟩
  | 101 => ⟨S8x2048x8x64, .f32⟩
  | 102 => ⟨S8x2048x8x64, .f32⟩
  | 103 => ⟨S1x1x8x64, .f32⟩
  | 104 => ⟨S8x2048x8x64, .f32⟩
  | 105 => ⟨S8x2048x8x64, .f32⟩
  | 106 => ⟨S8x2048x512, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S8x2048x512, .f32⟩
  | 116 => ⟨S8x2048x512, .f32⟩
  | 117 => ⟨S8x4x2x64x64, .f32⟩
  | 118 => ⟨S8x4x1x64x64, .f32⟩
  | 119 => ⟨S8x4x64x64, .f32⟩
  | 120 => ⟨S_, .f32⟩
  | 121 => ⟨S8x4x64x64, .f32⟩
  | 122 => ⟨S8x4x1x64x64, .f32⟩
  | 123 => ⟨S8x4x64x64, .f32⟩
  | 124 => ⟨S8x4x64x128, .f32⟩
  | 125 => ⟨S8x4x1x64x64, .f32⟩
  | 126 => ⟨S8x4x64x64, .f32⟩
  | 127 => ⟨S8x4x64x128, .f32⟩
  | _ => ⟨S8x2048x2048, .f32⟩

abbrev hbmTy0_2 (i : Nat) : BufTy := match i % 128 with
  | 0 => ⟨S8x4x128x128, .f32⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_4 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_6 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_12 : Ref sig .tc := ⟨.hbm, 137, rfl⟩
abbrev main_v117 : Ref sig .tc := ⟨.hbm, 138, rfl⟩
abbrev main_c : Ref sig .tc := ⟨.hbm, 139, rfl⟩
abbrev main_v118_0 : Ref sig .tc := ⟨.hbm, 140, rfl⟩
abbrev main_v118_1 : Ref sig .tc := ⟨.hbm, 141, rfl⟩
abbrev main_v118_2 : Ref sig .tc := ⟨.hbm, 142, rfl⟩
abbrev main_v118_3 : Ref sig .tc := ⟨.hbm, 143, rfl⟩
abbrev main_v118_4 : Ref sig .tc := ⟨.hbm, 144, rfl⟩
abbrev main_v118_5 : Ref sig .tc := ⟨.hbm, 145, rfl⟩
abbrev main_v118_6 : Ref sig .tc := ⟨.hbm, 146, rfl⟩
abbrev main_v118_7 : Ref sig .tc := ⟨.hbm, 147, rfl⟩
abbrev main_v118_8 : Ref sig .tc := ⟨.hbm, 148, rfl⟩
abbrev main_v118_9 : Ref sig .tc := ⟨.hbm, 149, rfl⟩
abbrev main_while0c_c_28 : Ref sig .tc := ⟨.hbm, 150, rfl⟩
abbrev main_while0c_v162 : Ref sig .tc := ⟨.hbm, 151, rfl⟩
abbrev main_while0b_call1_c : Ref sig .tc := ⟨.hbm, 152, rfl⟩
abbrev main_while0b_call1_c_0 : Ref sig .tc := ⟨.hbm, 153, rfl⟩
abbrev main_while0b_call1_c_1 : Ref sig .tc := ⟨.hbm, 154, rfl⟩
abbrev main_while0b_call1_c_2 : Ref sig .tc := ⟨.hbm, 155, rfl⟩
abbrev main_while0b_call1_v0 : Ref sig .tc := ⟨.hbm, 156, rfl⟩
abbrev main_while0b_v162 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_c_1 : Ref sig .tc := ⟨.hbm, 160, rfl⟩
abbrev main_while0b_call2_c_2 : Ref sig .tc := ⟨.hbm, 161, rfl⟩
abbrev main_while0b_call2_v0 : Ref sig .tc := ⟨.hbm, 162, rfl⟩
abbrev main_while0b_v163 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_c_1 : Ref sig .tc := ⟨.hbm, 166, rfl⟩
abbrev main_while0b_call3_c_2 : Ref sig .tc := ⟨.hbm, 167, rfl⟩
abbrev main_while0b_call3_v0 : Ref sig .tc := ⟨.hbm, 168, rfl⟩
abbrev main_while0b_v164 : Ref sig .tc := ⟨.hbm, 169, rfl⟩
abbrev main_while0b_v165 : Ref sig .tc := ⟨.hbm, 170, rfl⟩
abbrev main_while0b_v166 : Ref sig .tc := ⟨.hbm, 171, rfl⟩
abbrev main_while0b_v167 : Ref sig .tc := ⟨.hbm, 172, rfl⟩
abbrev main_while0b_v168 : Ref sig .tc := ⟨.hbm, 173, rfl⟩
abbrev main_while0b_v169 : Ref sig .tc := ⟨.hbm, 174, rfl⟩
abbrev main_while0b_v170 : Ref sig .tc := ⟨.hbm, 175, rfl⟩
abbrev main_while0b_v171 : Ref sig .tc := ⟨.hbm, 176, rfl⟩
abbrev main_while0b_v172 : Ref sig .tc := ⟨.hbm, 177, rfl⟩
abbrev main_while0b_v173 : Ref sig .tc := ⟨.hbm, 178, rfl⟩
abbrev main_while0b_v174 : Ref sig .tc := ⟨.hbm, 179, rfl⟩
abbrev main_while0b_v175 : Ref sig .tc := ⟨.hbm, 180, rfl⟩
abbrev main_while0b_v176 : Ref sig .tc := ⟨.hbm, 181, rfl⟩
abbrev main_while0b_v177 : Ref sig .tc := ⟨.hbm, 182, rfl⟩
abbrev main_while0b_v178 : Ref sig .tc := ⟨.hbm, 183, rfl⟩
abbrev main_while0b_v179 : Ref sig .tc := ⟨.hbm, 184, rfl⟩
abbrev main_while0b_v180 : Ref sig .tc := ⟨.hbm, 185, rfl⟩
abbrev main_while0b_v181 : Ref sig .tc := ⟨.hbm, 186, rfl⟩
abbrev main_while0b_v182 : Ref sig .tc := ⟨.hbm, 187, rfl⟩
abbrev main_while0b_v183 : Ref sig .tc := ⟨.hbm, 188, rfl⟩
abbrev main_while0b_v184 : Ref sig .tc := ⟨.hbm, 189, rfl⟩
abbrev main_while0b_v185 : Ref sig .tc := ⟨.hbm, 190, rfl⟩
abbrev main_while0b_v186 : Ref sig .tc := ⟨.hbm, 191, rfl⟩
abbrev main_while0b_call4_v0 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_c_1 : Ref sig .tc := ⟨.hbm, 195, rfl⟩
abbrev main_while0b_call4_c_2 : Ref sig .tc := ⟨.hbm, 196, rfl⟩
abbrev main_while0b_v187 : Ref sig .tc := ⟨.hbm, 197, rfl⟩
abbrev main_while0b_c_28 : Ref sig .tc := ⟨.hbm, 198, rfl⟩
abbrev main_while0b_v188 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_cst_13 : Ref sig .tc := ⟨.hbm, 205, rfl⟩
abbrev main_v124 : Ref sig .tc := ⟨.hbm, 206, rfl⟩
abbrev main_v125 : Ref sig .tc := ⟨.hbm, 207, rfl⟩
abbrev main_cst_14 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_15 : Ref sig .tc := ⟨.hbm, 214, rfl⟩
abbrev main_v131 : Ref sig .tc := ⟨.hbm, 215, rfl⟩
abbrev main_v132 : Ref sig .tc := ⟨.hbm, 216, rfl⟩
abbrev main_cst_16 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_cst_17 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_call5_v0 : Ref sig .tc := ⟨.hbm, 235, rfl⟩
abbrev main_call5_v1 : Ref sig .tc := ⟨.hbm, 236, rfl⟩
abbrev main_call5_cst : Ref sig .tc := ⟨.hbm, 237, rfl⟩
abbrev main_call5_v2 : Ref sig .tc := ⟨.hbm, 238, rfl⟩
abbrev main_call5_v3 : Ref sig .tc := ⟨.hbm, 239, rfl⟩
abbrev main_call5_cst_0 : Ref sig .tc := ⟨.hbm, 240, rfl⟩
abbrev main_call5_v4 : Ref sig .tc := ⟨.hbm, 241, rfl⟩
abbrev main_call5_v5 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_cst_18 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩

abbrev nD : Nat := 1
abbrev τ : Topo := Topo.v7x

variable {F : FTy → Type} [FloatOps F]

abbrev main_while0_count : Scf.Loop 32 := ⟨0#32, 16#32, 1#32⟩
-- ==== Kernel3.lean ====
abbrev S8x2048x1024 : Shape := ⟨3, ![8, 2048, 1024]⟩
abbrev S1024 : Shape := ⟨1, ![1024]⟩
abbrev S8x1024 : Shape := ⟨2, ![8, 1024]⟩
abbrev S1024x3072 : Shape := ⟨2, ![1024, 3072]⟩
abbrev S1024x1024 : Shape := ⟨2, ![1024, 1024]⟩
abbrev S8x1x1024 : Shape := ⟨3, ![8, 1, 1024]⟩
abbrev S1x1024 : Shape := ⟨2, ![1, 1024]⟩
abbrev S_ : Shape := ⟨0, ![]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3072, .f32⟩
  | .hbm, ⟨5, _⟩ => ⟨S1024, .f32⟩
  | .hbm, ⟨6, _⟩ => ⟨S1024, .f32⟩
  | .hbm, ⟨7, _⟩ => ⟨S1024x3072, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x2048x1024 : Shape := ⟨3, ![8, 2048, 1024]⟩
abbrev S1024 : Shape := ⟨1, ![1024]⟩
abbrev S8x1024 : Shape := ⟨2, ![8, 1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3072 : Shape := ⟨3, ![8, 2048, 3072]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3072, .f32⟩
  | .hbm, ⟨5, _⟩ => ⟨S1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x3072, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S8x1024 : Shape := ⟨2, ![8, 1024]⟩
abbrev S1024x3840 : Shape := ⟨2, ![1024, 3840]⟩
abbrev S_ : Shape := ⟨0, ![]⟩
abbrev S1x2048 : Shape := ⟨2, ![1, 2048]⟩
abbrev S1x1792 : Shape := ⟨2, ![1, 1792]⟩
abbrev S8x1x1024 : Shape := ⟨3, ![8, 1, 1024]⟩
abbrev S1024x2048 : Shape := ⟨2, ![1024, 2048]⟩
abbrev S1024x1792 : Shape := ⟨2, ![1024, 1792]⟩
abbrev S1x1024 : Shape := ⟨2, ![1, 1024]⟩
abbrev S8x2048x2048 : Shape := ⟨3, ![8, 2048, 2048]⟩
abbrev S8x2048x1792 : Shape := ⟨3, ![8, 2048, 1792]⟩
abbrev S1x256x1024 : Shape := ⟨3, ![1, 256, 1024]⟩
abbrev S1x1x1024 : Shape := ⟨3, ![1, 1, 1024]⟩
abbrev S1x256x2048 : Shape := ⟨3, ![1, 256, 2048]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x1792 : Shape := ⟨2, ![256, 1792]⟩

abbrev nBuf : Space → Nat
  | .hbm => 17
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3840, .f32⟩
  | .hbm, ⟨5, _⟩ => ⟨S1024x3840, .bf16⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S1x1792, .f32⟩
  | .hbm, ⟨10, _⟩ => ⟨S8x1x1024, .f32⟩
  | .hbm, ⟨11, _⟩ => ⟨S8x1x1024, .f32⟩
  | .hbm, ⟨12, _⟩ => ⟨S1024x2048, .bf16⟩
  | .hbm, ⟨13, _⟩ => ⟨S1024x1792, .bf16⟩
  | .hbm, ⟨14, _⟩ => ⟨S1x1024, .f32⟩
  | .hbm, ⟨15, _⟩ => ⟨S8x2048x2048, .f32⟩
  | .hbm, ⟨16, _⟩ => ⟨S8x2048x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x1792, .bf16⟩
  | .local _ .vmem, ⟨9, _⟩ => ⟨S1x2048, .f32⟩
  | .local _ .vmem, ⟨10, _⟩ => ⟨S1x1792, .f32⟩
  | .local _ .vmem, ⟨11, _⟩ => ⟨S1x256x2048, .f32⟩
  | .local _ .vmem, ⟨12, _⟩ => ⟨S1x256x2048, .f32⟩
  | .local _ .vmem, ⟨13, _⟩ => ⟨S1x256x1792, .f32⟩
  | .local _ .vmem, ⟨14, _⟩ => ⟨S1x256x1792, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x2048x1024 : Shape := ⟨3, ![8, 2048, 1024]⟩
abbrev S1024 : Shape := ⟨1, ![1024]⟩
abbrev S8x1024 : Shape := ⟨2, ![8, 1024]⟩
abbrev S1024x3840 : Shape := ⟨2, ![1024, 3840]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3840 : Shape := ⟨3, ![8, 2048, 3840]⟩
abbrev S8x2048x2048 : Shape := ⟨3, ![8, 2048, 2048]⟩
abbrev S8x2048x1792 : Shape := ⟨3, ![8, 2048, 1792]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3840, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x3840, .f32⟩
  | .hbm, ⟨31, _⟩ => ⟨S8x2048x2048, .f32⟩
  | .hbm, ⟨32, _⟩ => ⟨S8x2048x1792, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x1024 : Shape := ⟨2, ![8, 1024]⟩
abbrev S8x2048x512 : Shape := ⟨3, ![8, 2048, 512]⟩
abbrev S1024x1024 : Shape := ⟨2, ![1024, 1024]⟩
abbrev S8x1x1024 : Shape := ⟨3, ![8, 1, 1024]⟩
abbrev S512x1024 : Shape := ⟨2, ![512, 1024]⟩
abbrev S1x256x1024 : Shape := ⟨3, ![1, 256, 1024]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x2048x512, .f32⟩
  | .hbm, ⟨3, _⟩ => ⟨S8x2048x512, .f32⟩
  | .hbm, ⟨4, _⟩ => ⟨S1024x1024, .f32⟩
  | .hbm, ⟨5, _⟩ => ⟨S1024x1024, .bf16⟩
  | .hbm, ⟨6, _⟩ => ⟨S8x1x1024, .f32⟩
  | .hbm, ⟨7, _⟩ => ⟨S512x1024, .bf16⟩
  | .hbm, ⟨8, _⟩ => ⟨S512x1024, .bf16⟩
  | .hbm, ⟨9, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x1024, .bf16⟩
  | .local _ .vmem, ⟨9, _⟩ => ⟨S512x1024, .bf16⟩
  | .local _ .vmem, ⟨10, _⟩ => ⟨S1x256x1024, .f32⟩
  | .local _ .vmem, ⟨11, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x2048x1024 : Shape := ⟨3, ![8, 2048, 1024]⟩
abbrev S8x1024 : Shape := ⟨2, ![8, 1024]⟩
abbrev S8x2048x512 : Shape := ⟨3, ![8, 2048, 512]⟩
abbrev S1024x1024 : Shape := ⟨2, ![1024, 1024]⟩
abbrev S8x1x1024 : Shape := ⟨3, ![8, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x2048x512, .f32⟩
  | .hbm, ⟨3, _⟩ => ⟨S8x2048x512, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x1024 : Shape := ⟨2, ![8, 1024]⟩
abbrev S1024x1024 : Shape := ⟨2, ![1024, 1024]⟩
abbrev S8x1x1024 : Shape := ⟨3, ![8, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x2048x1024, .f32⟩
  | .hbm, ⟨3, _⟩ => ⟨S1024x1024, .f32⟩
  | .hbm, ⟨4, _⟩ => ⟨S8x1x1024, .f32⟩
  | .hbm, ⟨5, _⟩ => ⟨S1024x1024, .bf16⟩
  | .hbm, ⟨6, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8x2048x1024 : Shape := ⟨3, ![8, 2048, 1024]⟩
abbrev S8x1024 : Shape := ⟨2, ![8, 1024]⟩
abbrev S1024x1024 : Shape := ⟨2, ![1024, 1024]⟩
abbrev S8x1x1024 : Shape := ⟨3, ![8, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x2048x1024, .f32⟩
  | .hbm, ⟨3, _⟩ => ⟨S1024x1024, .f32⟩
  | .hbm, ⟨4, _⟩ => ⟨S8x1x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S32x8x1024 : Shape := ⟨3, ![32, 8, 1024]⟩
abbrev S1024 : Shape := ⟨1, ![1024]⟩
abbrev S32x1024 : Shape := ⟨2, ![32, 1024]⟩
abbrev S1024x3072 : Shape := ⟨2, ![1024, 3072]⟩
abbrev S1024x1024 : Shape := ⟨2, ![1024, 1024]⟩
abbrev S1x256x1024 : Shape := ⟨3, ![1, 256, 1024]⟩
abbrev S32x1x1024 : Shape := ⟨3, ![32, 1, 1024]⟩
abbrev S1x1024 : Shape := ⟨2, ![1, 1024]⟩
abbrev S_ : Shape := ⟨0, ![]⟩
abbrev S256x1024 : Shape := ⟨2, ![256, 1024]⟩
abbrev S256 : Shape := ⟨1, ![256]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .f32⟩
  | .hbm, ⟨5, _⟩ => ⟨S1024, .f32⟩
  | .hbm, ⟨6, _⟩ => ⟨S1024, .f32⟩
  | .hbm, ⟨7, _⟩ => ⟨S1024x3072, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x256x1024, .f32⟩
  | .hbm, ⟨12, _⟩ => ⟨S32x1x1024, .f32⟩
  | .hbm, ⟨13, _⟩ => ⟨S32x8x1024, .f32⟩
  | .hbm, ⟨14, _⟩ => ⟨S1x256x1024, .f32⟩
  | .hbm, ⟨15, _⟩ => ⟨S32x1x1024, .f32⟩
  | .hbm, ⟨16, _⟩ => ⟨S32x8x1024, .f32⟩
  | .hbm, ⟨17, _⟩ => ⟨S1x256x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== Reference7Ideal.lean ====
abbrev S32x8x1024 : Shape := ⟨3, ![32, 8, 1024]⟩
abbrev S1024 : Shape := ⟨1, ![1024]⟩
abbrev S32x1024 : Shape := ⟨2, ![32, 1024]⟩
abbrev S1024x3072 : Shape := ⟨2, ![1024, 3072]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x3072 : Shape := ⟨3, ![32, 8, 3072]⟩
abbrev S1x256x1024 : Shape := ⟨3, ![1, 256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .f32⟩
  | .hbm, ⟨5, _⟩ => ⟨S1024, .f32⟩
  | .hbm, ⟨6, _⟩ => ⟨S1024, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x8x1024, .f32⟩
  | .hbm, ⟨28, _⟩ => ⟨S32x8x1024, .f32⟩
  | .hbm, ⟨29, _⟩ => ⟨S32x1x1024, .f32⟩
  | .hbm, ⟨30, _⟩ => ⟨S32x8x1024, .f32⟩
  | .hbm, ⟨31, _⟩ => ⟨S32x8x1024, .f32⟩
  | .hbm, ⟨32, _⟩ => ⟨S32x8x3072, .f32⟩
  | .hbm, ⟨33, _⟩ => ⟨S32x8x1024, .f32⟩
  | .hbm, ⟨34, _⟩ => ⟨S32x8x1024, .f32⟩
  | .hbm, ⟨35, _⟩ => ⟨S32x8x1024, .f32⟩
  | .hbm, ⟨36, _⟩ => ⟨S1x1x1024, .f32⟩
  | .hbm, ⟨37, _⟩ => ⟨S32x8x1024, .f32⟩
  | .hbm, ⟨38, _⟩ => ⟨S32x8x1024, .f32⟩
  | .hbm, ⟨39, _⟩ => ⟨S1x1x1024, .f32⟩
  | .hbm, ⟨40, _⟩ => ⟨S32x8x1024, .f32⟩
  | .hbm, ⟨41, _⟩ => ⟨S32x8x1024, .f32⟩
  | .hbm, ⟨42, _⟩ => ⟨S1x256x1024, .f32⟩
  | .hbm, ⟨43, _⟩ => ⟨S1x256x1024, .f32⟩
  | .hbm, ⟨44, _⟩ => ⟨S1x256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel8.lean ====
abbrev S32x8x1024 : Shape := ⟨3, ![32, 8, 1024]⟩
abbrev S1024 : Shape := ⟨1, ![1024]⟩
abbrev S32x1024 : Shape := ⟨2, ![32, 1024]⟩
abbrev S1024x3840 : Shape := ⟨2, ![1024, 3840]⟩
abbrev S_ : Shape := ⟨0, ![]⟩
abbrev S1x2048 : Shape := ⟨2, ![1, 2048]⟩
abbrev S1x1792 : Shape := ⟨2, ![1, 1792]⟩
abbrev S1x256x1024 : Shape := ⟨3, ![1, 256, 1024]⟩
abbrev S32x1x1024 : Shape := ⟨3, ![32, 1, 1024]⟩
abbrev S1024x2048 : Shape := ⟨2, ![1024, 2048]⟩
abbrev S1024x1792 : Shape := ⟨2, ![1024, 1792]⟩
abbrev S1x1024 : Shape := ⟨2, ![1, 1024]⟩
abbrev S1x256x2048 : Shape := ⟨3, ![1, 256, 2048]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x1792 : Shape := ⟨2, ![256, 1792]⟩

abbrev nBuf : Space → Nat
  | .hbm => 22
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3840, .f32⟩
  | .hbm, ⟨5, _⟩ => ⟨S1024x3840, .bf16⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S1x1792, .f32⟩
  | .hbm, ⟨10, _⟩ => ⟨S1x256x1024, .f32⟩
  | .hbm, ⟨11, _⟩ => ⟨S32x1x1024, .f32⟩
  | .hbm, ⟨12, _⟩ => ⟨S32x8x1024, .f32⟩
  | .hbm, ⟨13, _⟩ => ⟨S1x256x1024, .f32⟩
  | .hbm, ⟨14, _⟩ => ⟨S32x1x1024, .f32⟩
  | .hbm, ⟨15, _⟩ => ⟨S32x8x1024, .f32⟩
  | .hbm, ⟨16, _⟩ => ⟨S1x256x1024, .f32⟩
  | .hbm, ⟨17, _⟩ => ⟨S1024x2048, .bf16⟩
  | .hbm, ⟨18, _⟩ => ⟨S1024x1792, .bf16⟩
  | .hbm, ⟨19, _⟩ => ⟨S1x1024, .f32⟩
  | .hbm, ⟨20, _⟩ => ⟨S1x256x2048, .f32⟩
  | .hbm, ⟨21, _⟩ => ⟨S1x256x1792, .f32⟩
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x2048, .bf16⟩
  | .local _ .vmem, ⟨5, _⟩ => ⟨S1024x1792, .bf16⟩
  | .local _ .vmem, ⟨6, _⟩ => ⟨S1x2048, .f32⟩
  | .local _ .vmem, ⟨7, _⟩ => ⟨S1x1792, .f32⟩
  | .local _ .vmem, ⟨8, _⟩ => ⟨S1x256x2048, .f32⟩
  | .local _ .vmem, ⟨9, _⟩ => ⟨S1x256x1792, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== Reference8Ideal.lean ====
abbrev S32x8x1024 : Shape := ⟨3, ![32, 8, 1024]⟩
abbrev S1024 : Shape := ⟨1, ![1024]⟩
abbrev S32x1024 : Shape := ⟨2, ![32, 1024]⟩
abbrev S1024x3840 : Shape := ⟨2, ![1024, 3840]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x3840 : Shape := ⟨3, ![32, 8, 3840]⟩
abbrev S32x8x2048 : Shape := ⟨3, ![32, 8, 2048]⟩
abbrev S1x256x2048 : Shape := ⟨3, ![1, 256, 2048]⟩
abbrev S32x8x1792 : Shape := ⟨3, ![32, 8, 1792]⟩
abbrev S1x256x1792 : Shape := ⟨3, ![1, 256, 1792]⟩

abbrev nBuf : Space → Nat
  | .hbm => 35
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3840, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x1x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x8x1024, .f32⟩
  | .hbm, ⟨26, _⟩ => ⟨S32x8x1024, .f32⟩
  | .hbm, ⟨27, _⟩ => ⟨S32x1x1024, .f32⟩
  | .hbm, ⟨28, _⟩ => ⟨S32x8x1024, .f32⟩
  | .hbm, ⟨29, _⟩ => ⟨S32x8x1024, .f32⟩
  | .hbm, ⟨30, _⟩ => ⟨S32x8x3840, .f32⟩
  | .hbm, ⟨31, _⟩ => ⟨S32x8x2048, .f32⟩
  | .hbm, ⟨32, _⟩ => ⟨S1x256x2048, .f32⟩
  | .hbm, ⟨33, _⟩ => ⟨S32x8x1792, .f32⟩
  | .hbm, ⟨34, _⟩ => ⟨S1x256x1792, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel9.lean ====
abbrev S1x256x1024 : Shape := ⟨3, ![1, 256, 1024]⟩
abbrev S1x256x64 : Shape := ⟨3, ![1, 256, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S1x1024x256 : Shape := ⟨3, ![1, 1024, 256]⟩
abbrev S256x256 : Shape := ⟨2, ![256, 256]⟩
abbrev S256x64 : Shape := ⟨2, ![256, 64]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .bf16⟩
  | .hbm, ⟨3, _⟩ => ⟨S1x256x64, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1024, .f32⟩
  | .hbm, ⟨11, _⟩ => ⟨S64x1024x256, .bf16⟩
  | .hbm, ⟨12, _⟩ => ⟨S64x1024x256, .bf16⟩
  | .hbm, ⟨13, _⟩ => ⟨S64x256x1024, .bf16⟩
  | .hbm, ⟨14, _⟩ => ⟨S1024x256, .bf16⟩
  | .hbm, ⟨15, _⟩ => ⟨S1024x256, .bf16⟩
  | .hbm, ⟨16, _⟩ => ⟨S256x1024, .bf16⟩
  | .hbm, ⟨17, _⟩ => ⟨S1x1024, .f32⟩
  | .hbm, ⟨18, _⟩ => ⟨S1x256x1024, .f32⟩
  | .local _ .vmem, ⟨0, _⟩ => ⟨S1x256x1024, .bf16⟩
  | .local _ .vmem, ⟨1, _⟩ => ⟨S1x256x64, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1x1024, .f32⟩
  | .local _ .vmem, ⟨14, _⟩ => ⟨S1x256x1024, .f32⟩
  | .local _ .vmem, ⟨15, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨3, ![1, 1, 64], ![false, false, false]⟩

def k0_cond2 (i : grid0.Coords) : BitVec 1 :=
  let arg2 : BitVec 32 := BitVec.ofNat 32 (i 2).val
  let c63_i32 : BitVec 32 := 63#32
  let v34 : BitVec 1 := Scalar.cmpi .eq arg2 c63_i32
  let v35 : BitVec 32 := Scalar.extui v34
  let c0_i32_23 : BitVec 32 := 0#32
  let v36 : BitVec 1 := Scalar.cmpi .ne v35 c0_i32_23
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true, false]
-- ==== Reference9Ideal.lean ====
abbrev S1x256x1024 : Shape := ⟨3, ![1, 256, 1024]⟩
abbrev S1x256x64 : Shape := ⟨3, ![1, 256, 64]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S256x64 : Shape := ⟨2, ![256, 64]⟩
abbrev S256x256 : Shape := ⟨2, ![256, 256]⟩
abbrev S_ : Shape := ⟨0, ![]⟩
abbrev S64x256 : Shape := ⟨2, ![64, 256]⟩
abbrev S1x1024x256 : Shape := ⟨3, ![1, 1024, 256]⟩
abbrev S1x256 : Shape := ⟨2, ![1, 256]⟩
abbrev S256 : Shape := ⟨1, ![256]⟩
abbrev S256x1 : Shape := ⟨2, ![256, 1]⟩
abbrev S1x256x1 : Shape := ⟨3, ![1, 256, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .bf16⟩
  | .hbm, ⟨3, _⟩ => ⟨S1x256x64, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1024, .f32⟩
  | .hbm, ⟨11, _⟩ => ⟨S1x256x1024, .f32⟩
  | .hbm, ⟨12, _⟩ => ⟨S256x1024, .f32⟩
  | .hbm, ⟨13, _⟩ => ⟨S256x64, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x1024, .f32⟩
  | .hbm, ⟨27, _⟩ => ⟨S64x256, .f32⟩
  | .hbm, ⟨28, _⟩ => ⟨S_, .i32⟩
  | .hbm, ⟨29, _⟩ => ⟨S64x1024x256, .f32⟩
  | .hbm, ⟨30, _⟩ => ⟨S64x1024x256, .f32⟩
  | .hbm, ⟨31, _⟩ => ⟨S64x256x1024, .f32⟩
  | .hbm, ⟨32, _⟩ => ⟨S64x256, .f32⟩
  | .hbm, ⟨33, _⟩ => ⟨S256x1024, .f32⟩
  | .hbm, ⟨34, _⟩ => ⟨S_, .i32⟩
  | .hbm, ⟨35, _⟩ => ⟨S256x1024, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S1x1024x256, .f32⟩
  | .hbm, ⟨41, _⟩ => ⟨S1024x256, .f32⟩
  | .hbm, ⟨42, _⟩ => ⟨S_, .i32⟩
  | .hbm, ⟨43, _⟩ => ⟨S_, .i32⟩
  | .hbm, ⟨44, _⟩ => ⟨S1x1024x256, .f32⟩
  | .hbm, ⟨45, _⟩ => ⟨S1024x256, .f32⟩
  | .hbm, ⟨46, _⟩ => ⟨S_, .i32⟩
  | .hbm, ⟨47, _⟩ => ⟨S_, .i32⟩
  | .hbm, ⟨48, _⟩ => ⟨S1x256x1024, .f32⟩
  | .hbm, ⟨49, _⟩ => ⟨S256x1024, .f32⟩
  | .hbm, ⟨50, _⟩ => ⟨S_, .i32⟩
  | .hbm, ⟨51, _⟩ => ⟨S1x256, .f32⟩
  | .hbm, ⟨52, _⟩ => ⟨S256, .f32⟩
  | .hbm, ⟨53, _⟩ => ⟨S256x1, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S_, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S_, .i32⟩
  | .hbm, ⟨71, _⟩ => ⟨S_, .i32⟩
  | .hbm, ⟨72, _⟩ => ⟨S1x256x1024, .f32⟩
  | .hbm, ⟨73, _⟩ => ⟨S1x256x1024, .f32⟩
  | .hbm, ⟨74, _⟩ => ⟨S1x256x1024, .f32⟩
  | .hbm, ⟨75, _⟩ => ⟨S1x256x1024, .f32⟩
  | .hbm, ⟨76, _⟩ => ⟨S_, .f32⟩
  | .hbm, ⟨77, _⟩ => ⟨S1x256, .f32⟩
  | .hbm, ⟨78, _⟩ => ⟨S1x256x1, .f32⟩
  | .hbm, ⟨79, _⟩ => ⟨S_, .f32⟩
  | .hbm, ⟨80, _⟩ => ⟨S1x256x1, .f32⟩
  | .hbm, ⟨81, _⟩ => ⟨S1x256x1, .f32⟩
  | .hbm, ⟨82, _⟩ => ⟨S_, .f32⟩
  | .hbm, ⟨83, _⟩ => ⟨S1x256x1, .f32⟩
  | .hbm, ⟨84, _⟩ => ⟨S1x256x1, .f32⟩
  | .hbm, ⟨85, _⟩ => ⟨S1x256x1, .f32⟩
  | .hbm, ⟨86, _⟩ => ⟨S1x256x1024, .f32⟩
  | .hbm, ⟨87, _⟩ => ⟨S1x256x1024, .f32⟩
  | .hbm, ⟨88, _⟩ => ⟨S1x1x1024, .f32⟩
  | .hbm, ⟨89, _⟩ => ⟨S1x256x1024, .f32⟩
  | .hbm, ⟨90, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v9_4 : Ref sig .tc := ⟨.hbm, 33, rfl⟩
abbrev main_v9_5 : Ref sig .tc := ⟨.hbm, 34, rfl⟩
abbrev main_v9_6 : Ref sig .tc := ⟨.hbm, 35, rfl⟩
abbrev main_while0c_c_8 : Ref sig .tc := ⟨.hbm, 36, rfl⟩
abbrev main_while0c_v26 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v26 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_v0 : Ref sig .tc := ⟨.hbm, 44, rfl⟩
abbrev main_while0b_v27 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_v0 : Ref sig .tc := ⟨.hbm, 48, rfl⟩
abbrev main_while0b_v28 : Ref sig .tc := ⟨.hbm, 49, rfl⟩
abbrev main_while0b_call4_c : Ref sig .tc := ⟨.hbm, 50, rfl⟩
abbrev main_while0b_call4_v0 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_call5_v0 : Ref sig .tc := ⟨.hbm, 55, rfl⟩
abbrev main_while0b_call5_v1 : Ref sig .tc := ⟨.hbm, 56, rfl⟩
abbrev main_while0b_call5_cst : Ref sig .tc := ⟨.hbm, 57, rfl⟩
abbrev main_while0b_call5_v2 : Ref sig .tc := ⟨.hbm, 58, rfl⟩
abbrev main_while0b_call5_v3 : Ref sig .tc := ⟨.hbm, 59, rfl⟩
abbrev main_while0b_call5_cst_0 : Ref sig .tc := ⟨.hbm, 60, rfl⟩
abbrev main_while0b_call5_v4 : Ref sig .tc := ⟨.hbm, 61, rfl⟩
abbrev main_while0b_call5_v5 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_c_8 : Ref sig .tc := ⟨.hbm, 70, rfl⟩
abbrev main_while0b_v39 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_cst : Ref sig .tc := ⟨.hbm, 76, rfl⟩
abbrev main_v14 : Ref sig .tc := ⟨.hbm, 77, rfl⟩
abbrev main_v15 : Ref sig .tc := ⟨.hbm, 78, rfl⟩
abbrev main_cst_0 : Ref sig .tc := ⟨.hbm, 79, rfl⟩
abbrev main_v16 : Ref sig .tc := ⟨.hbm, 80, rfl⟩
abbrev main_v17 : Ref sig .tc := ⟨.hbm, 81, rfl⟩
abbrev main_cst_1 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩

abbrev nD : Nat := 1
abbrev τ : Topo := Topo.v7x

variable {F : FTy → Type} [FloatOps F]

abbrev main_while0_count : Scf.Loop 32 := ⟨0#32, 64#32, 1#32⟩
-- ==== Proof.MoeBlock.lean ====
module

public import proofs.«01_k».proof.Proof.Gen.KernelIdeal.Skeleton
public import Idealize.ShloMosaic.Lib.Pointwise

/-!
# What one grid point of the experts' kernel computes

The formulas of the layer at one token row (`silu`, `act`, `shared`, `expert`, `normed`), and the kernel body's stored
values read at an index as those formulas.
-/

@[expose] public section

set_option maxRecDepth 16384

noncomputable section

namespace Cert.Proof.Moe

open Idealize.ShloMosaic Cert.KernelIdeal Cert.KernelIdeal.Gen

/-- `x · σ(x)`. -/
def silu (x : EReal) : EReal := x * Ideal.logistic x

/-- One hidden unit of a gated network: `silu (h · g) · (h · u)` for a token row `h` and the unit's two weight columns. -/
def act (h g u : Fin 1024 → EReal) : EReal := silu (∑ k, h k * g k) * ∑ k, h k * u k

/-- One output of a gated network of 256 hidden units: the units' activations against one column of down weights. -/
def ffn (h : Fin 1024 → EReal) (g u : Fin 1024 → Fin 256 → EReal) (w : Fin 256 → EReal) : EReal :=
  ∑ f, act h (fun k => g k f) (fun k => u k f) * w f

/-- The same with every activation scaled by the row's routing weight before the down product. -/
def scaled (c : EReal) (h : Fin 1024 → EReal) (g u : Fin 1024 → Fin 256 → EReal) (w : Fin 256 → EReal) : EReal :=
  ∑ f, act h (fun k => g k f) (fun k => u k f) * c * w f

/-- One output of the closing norm: the row `x + g · y`, divided by the root of its mean square plus the constant, times
    the norm's weight. -/
def normed (x g y w : Fin 1024 → EReal) (d : Fin 1024) : EReal :=
  (x d + g d * y d) *
      Ideal.rsqrt (Ideal.div (∑ k, (x k + g k * y k) * (x k + g k * y k)) (Ideal.ofBits .f32 0x44800000#32)
        + Ideal.ofBits .f32 0x358637BD#32) * w d

/-- The layer's output at token `(b, l)` and lane `d`: the shared network plus the 64 experts' networks, each scaled by the
    token's routing weight for it, through the closing norm. -/
def layer (x : Fin 8 → Fin 2048 → Fin 1024 → EReal) (g : Fin 8 → Fin 1024 → EReal) (h : Fin 8 → Fin 2048 → Fin 1024 → EReal)
    (cb : Fin 8 → Fin 2048 → Fin 64 → EReal) (wg wu : Fin 64 → Fin 1024 → Fin 256 → EReal)
    (wd : Fin 64 → Fin 256 → Fin 1024 → EReal) (sg su : Fin 1024 → Fin 256 → EReal) (sd : Fin 256 → Fin 1024 → EReal)
    (w : Fin 1024 → EReal) (b : Fin 8) (l : Fin 2048) (d : Fin 1024) : EReal :=
  normed (x b l) (g b)
    (fun k => ffn (h b l) sg su (fun f => sd f k)
      + ∑ e, scaled (cb b l e) (h b l) (wg e) (wu e) (fun f => wd e f k)) w d

/-- The reset's value: the shared network's output. -/
theorem pay4_apply (h : Vec Ideal S1x1024x1024 .bf16) (wg wu : Vec Ideal S1024x256 .bf16) (wd : Vec Ideal S256x1024 .bf16)
    (r d : Fin 1024) : k0_pay4 h wg wu wd (ix2 r d)
      = ffn (fun k => h (ix3 0 r k)) (fun k f => wg (ix2 k f)) (fun k f => wu (ix2 k f)) (fun f => wd (ix2 f d)) := by
  pointwise [k0_pay4, k0_pay3]
  rfl

/-- The masked sum along the 64 lanes of a row of routing weights is the lane the grid point names. -/
theorem pick (e : ℕ) (he : e < 64) (f : Fin 64 → EReal) :
    ∑ x : Fin 64, Scalar.select (IntOp.cmpi CmpIPredicate.eq (BitVec.ofNat 32 ↑x) (BitVec.ofNat 32 e)) (f x) 0
      = f ⟨e, he⟩ := by
  rw [Finset.sum_eq_single (⟨e, he⟩ : Fin 64)]
  · simp [Scalar.select, IntOp.cmpi]
  · intro x _ hx
    have hne : (x : ℕ) ≠ e := fun h => hx (Fin.ext h)
    have : (BitVec.ofNat 32 ↑x) ≠ (BitVec.ofNat 32 e) := by
      intro h
      have := congrArg BitVec.toNat h
      simp only [BitVec.toNat_ofNat] at this
      omega
    have hb : (BitVec.ofNat 32 ↑x == BitVec.ofNat 32 e) = false := beq_eq_false_iff_ne.mpr this
    simp [Scalar.select, IntOp.cmpi, hb]
  · simp

/-- The point's contribution: expert `e`'s network, its activations scaled by the row's weight for it, added to the sum. -/
theorem pay5_apply (i : grid0.Coords) (h : Vec Ideal S1x1024x1024 .bf16) (cb : Vec Ideal S1x1024x64 .f32)
    (wg wu : Vec Ideal S1x1024x256 .bf16) (acc : Vec Ideal S1024x1024 .f32) (wd : Vec Ideal S1x256x1024 .bf16)
    (r d : Fin 1024) : k0_pay5 i h cb wg wu acc wd (ix2 r d)
      = acc (ix2 r d) + scaled (cb (ix3 0 r ⟨(i 2).val, (i 2).isLt⟩)) (fun k => h (ix3 0 r k)) (fun k f => wg (ix3 0 k f))
          (fun k f => wu (ix3 0 k f)) (fun f => wd (ix3 0 f d)) := by
  pointwise [k0_pay5, k0_pay3]
  rw [pick (i 2).val (i 2).isLt fun x => cb (ix3 0 r x)]
  rfl

/-- The last point's store: the norm of the residual plus the gated sum. -/
theorem pay2_apply (x : Vec Ideal S1x1024x1024 .f32) (g : Vec Ideal S1x1x1024 .f32) (acc : Vec Ideal S1024x1024 .f32)
    (w : Vec Ideal S1x1024 .f32) (r d : Fin 1024) : k0_pay2 x g acc w (ix3 0 r d)
      = normed (fun k => x (ix3 0 r k)) (fun k => g (ix3 0 0 k)) (fun k => acc (ix2 r k)) (fun k => w (ix2 0 k)) d := by
  pointwise [k0_pay2]
  rfl

end Cert.Proof.Moe

end
-- ==== Proof.MoeFold.lean ====
module

public import proofs.«01_k».proof.Proof.MoeBlock
public import proofs.«01_k».proof.Proof.Gen.KernelIdeal.Value
public import Idealize.ShloMosaic.Lib.Pipeline.ValueKit
public import Idealize.ShloMosaic.Lib.StableHlo.ReadAt

/-!
# What the experts' kernel leaves in its result

Each input block read off its argument; the running sum in scratch over a token block's 64 points; the result array.
-/

@[expose] public section

set_option maxRecDepth 16384

noncomputable section

namespace Cert.Proof.Moe

open Idealize.ShloMosaic Idealize.ShloMosaic.TcCoe Cert.KernelIdeal Cert.KernelIdeal.Gen

variable (m : (ℓ : Loc nD τ sig) → Buf (Elt Ideal) ℓ)

/-- Which block each window reads at point `t`: batch row `t / 128`, half `t / 64 % 2` of its tokens, expert `t % 64`. -/
theorem idx0 : ∀ t : Fin cfg0.N, win0_0.index t = ![t.val / 128, t.val / 64 % 2, 0]
    ∧ win0_1.index t = ![t.val / 128, t.val / 64 % 2, 0]
    ∧ win0_2.index t = ![t.val % 64, 0, 0] ∧ win0_3.index t = ![t.val % 64, 0, 0] ∧ win0_4.index t = ![t.val % 64, 0, 0]
    ∧ win0_5.index t = ![0, 0] ∧ win0_6.index t = ![0, 0] ∧ win0_7.index t = ![0, 0]
    ∧ win0_8.index t = ![t.val / 128, t.val / 64 % 2, 0] ∧ win0_9.index t = ![t.val / 128, 0, 0]
    ∧ win0_10.index t = ![0, 0] ∧ (grid0.coords t 2).val = t.val % 64 :=
  (by decide +kernel : ∀ t : Fin grid0.N, _)

section blocks

variable (c : Dev nD) (t : Fin cfg0.N) (b : Fin 8) (l : Fin 2048) (e : Fin 64) (r k d : Fin 1024) (f : Fin 256)

/-- The token block of the normalized activations. -/
theorem blk0 (hb : t.val / 128 = b) (hl : t.val / 64 % 2 * 1024 + r.val = l) :
    iblk m c 0 t (ix3 0 r k) = m ((c : Thread nD τ).loc main_arg2) (ix3 b l k) := by
  blk_ext [iblk, V, idx0 t]

/-- The token block of the routing weights. -/
theorem blk1 (j : Fin 64) (hb : t.val / 128 = b) (hl : t.val / 64 % 2 * 1024 + r.val = l) :
    iblk m c 1 t (ix3 0 r j) = m ((c : Thread nD τ).loc main_arg3) (ix3 b l j) := by
  blk_ext [iblk, V, idx0 t]

/-- The point's expert's gate weights. -/
theorem blk2 (he : t.val % 64 = e) :
    iblk m c 2 t (ix3 0 k f) = m ((c : Thread nD τ).loc main_arg4) (ix3 e k f) := by
  blk_ext [iblk, V, idx0 t]

/-- The point's expert's up weights. -/
theorem blk3 (he : t.val % 64 = e) :
    iblk m c 3 t (ix3 0 k f) = m ((c : Thread nD τ).loc main_arg5) (ix3 e k f) := by
  blk_ext [iblk, V, idx0 t]

/-- The point's expert's down weights. -/
theorem blk4 (he : t.val % 64 = e) :
    iblk m c 4 t (ix3 0 f d) = m ((c : Thread nD τ).loc main_arg6) (ix3 e f d) := by
  blk_ext [iblk, V, idx0 t]

/-- The shared network's gate weights. -/
theorem blk5 : iblk m c 5 t (ix2 k f) = m ((c : Thread nD τ).loc main_arg7) (ix2 k f) := by
  blk_ext [iblk, V, idx0 t]

/-- The shared network's up weights. -/
theorem blk6 : iblk m c 6 t (ix2 k f) = m ((c : Thread nD τ).loc main_arg8) (ix2 k f) := by
  blk_ext [iblk, V, idx0 t]

/-- The shared network's down weights. -/
theorem blk7 : iblk m c 7 t (ix2 f d) = m ((c : Thread nD τ).loc main_arg9) (ix2 f d) := by
  blk_ext [iblk, V, idx0 t]

/-- The token block of the residual. -/
theorem blk8 (hb : t.val / 128 = b) (hl : t.val / 64 % 2 * 1024 + r.val = l) :
    iblk m c 8 t (ix3 0 r k) = m ((c : Thread nD τ).loc main_arg0) (ix3 b l k) := by
  blk_ext [iblk, V, idx0 t]

/-- The batch row's gate. -/
theorem blk9 (hb : t.val / 128 = b) :
    iblk m c 9 t (ix3 0 0 k) = m ((c : Thread nD τ).loc main_arg1) (ix3 b 0 k) := by
  blk_ext [iblk, V, idx0 t]

/-- The closing norm's weight, which the host hands over as a row. -/
theorem V_v6 : V m c main_v6 (ix2 0 k) = m ((c : Thread nD τ).loc main_arg10) (ix1 k) := by
  unfold V
  after_reads_at

theorem blk10 : iblk m c 10 t (ix2 0 k) = m ((c : Thread nD τ).loc main_arg10) (ix1 k) := by
  rw [← V_v6 m]
  blk_ext [iblk, idx0 t]

end blocks

/-- The shared network's output for token `(b, l)`, from the launch's arguments. -/
def sharedOf (c : Dev nD) (b : Fin 8) (l : Fin 2048) (d : Fin 1024) : EReal :=
  ffn (fun k => m ((c : Thread nD τ).loc main_arg2) (ix3 b l k)) (fun k f => m ((c : Thread nD τ).loc main_arg7) (ix2 k f))
    (fun k f => m ((c : Thread nD τ).loc main_arg8) (ix2 k f)) (fun f => m ((c : Thread nD τ).loc main_arg9) (ix2 f d))

/-- Expert `e`'s scaled output for token `(b, l)`, from the launch's arguments. -/
def expertOf (c : Dev nD) (b : Fin 8) (l : Fin 2048) (e : Fin 64) (d : Fin 1024) : EReal :=
  scaled (m ((c : Thread nD τ).loc main_arg3) (ix3 b l e)) (fun k => m ((c : Thread nD τ).loc main_arg2) (ix3 b l k))
    (fun k f => m ((c : Thread nD τ).loc main_arg4) (ix3 e k f)) (fun k f => m ((c : Thread nD τ).loc main_arg5) (ix3 e k f))
    (fun f => m ((c : Thread nD τ).loc main_arg6) (ix3 e f d))

theorem row_lt (t : Fin cfg0.N) : t.val / 128 < 8 := by have := t.isLt; have : cfg0.N = 1024 := N_0; omega

/-- Batch row and token of a point's block row `r`, and the point's expert. -/
def bOf (t : Fin cfg0.N) : Fin 8 := ⟨t.val / 128, row_lt t⟩
def lOf (t : Fin cfg0.N) (r : Fin 1024) : Fin 2048 := ⟨t.val / 64 % 2 * 1024 + r.val, by omega⟩
def eOf (t : Fin cfg0.N) : Fin 64 := ⟨t.val % 64, by omega⟩

/-- The shared network's value at point `t`. -/
theorem shared_point (c : Dev nD) (t : Fin cfg0.N) (r d : Fin 1024) :
    k0_pay4 (iblk m c 0 t) (iblk m c 5 t) (iblk m c 6 t) (iblk m c 7 t) (ix2 r d) = sharedOf m c (bOf t) (lOf t r) d := by
  rw [pay4_apply]
  unfold sharedOf
  simp only [blk0 m c t (bOf t) (lOf t r) r _ rfl rfl, blk5, blk6, blk7]

/-- One point's step: expert `t % 64` added to the running sum `acc`. -/
theorem step_point (c : Dev nD) (t : Fin cfg0.N) (acc : Vec Ideal S1024x1024 .f32) (r d : Fin 1024) :
    k0_pay1 (k0_pay5 (grid0.coords t) (iblk m c 0 t) (iblk m c 1 t) (iblk m c 2 t) (iblk m c 3 t) acc (iblk m c 4 t)) (ix2 r d)
      = acc (ix2 r d) + expertOf m c (bOf t) (lOf t r) (eOf t) d := by
  have e : k0_pay1 (k0_pay5 (grid0.coords t) (iblk m c 0 t) (iblk m c 1 t) (iblk m c 2 t) (iblk m c 3 t) acc (iblk m c 4 t)) (ix2 r d)
      = k0_pay5 (grid0.coords t) (iblk m c 0 t) (iblk m c 1 t) (iblk m c 2 t) (iblk m c 3 t) acc (iblk m c 4 t) (ix2 r d) := by
    pointwise [k0_pay1]
  rw [e, pay5_apply]
  have he : (⟨(grid0.coords t 2).val, (grid0.coords t 2).isLt⟩ : Fin 64) = eOf t := Fin.ext (idx0 t).2.2.2.2.2.2.2.2.2.2.2
  unfold expertOf
  rw [← he]
  simp only [blk0 m c t (bOf t) (lOf t r) r _ rfl rfl, blk1 m c t (bOf t) (lOf t r) r _ rfl rfl,
    blk2 m c t (eOf t) _ _ rfl, blk3 m c t (eOf t) _ _ rfl, blk4 m c t (eOf t) _ _ rfl, he]

/-- A block's first point: the shared network plus expert 0. -/
theorem scr_reset (c : Dev nD) (t : Fin cfg0.N) (h0 : t.val % 64 = 0) (r d : Fin 1024) :
    (outsAt0 m c t.val t.isLt).2 (ix2 r d)
      = sharedOf m c (bOf t) (lOf t r) d + expertOf m c (bOf t) (lOf t r) (eOf t) d := by
  rw [outsAt0_A m c t h0 (by omega)]
  frame_out
  rw [step_point, shared_point]

/-- A later point adds its expert. -/
theorem scr_step (c : Dev nD) (t : Fin cfg0.N) (h0 : ¬t.val % 64 = 0) (r d : Fin 1024) :
    (outsAt0 m c t.val t.isLt).2 (ix2 r d)
      = (outsAt0 m c (t.val - 1) (Nat.lt_of_le_of_lt (Nat.sub_le _ _) t.isLt)).2 (ix2 r d)
        + expertOf m c (bOf t) (lOf t r) (eOf t) d := by
  by_cases h1 : t.val % 64 = 63
  · rw [outsAt0_C m c t h0 h1]
    frame_out
    rw [step_point]
    congr 1
    exact congrFun (Memref.IsWhole.read_unread _ _) _
  · rw [outsAt0_B m c t h0 h1]
    frame_out
    rw [step_point]
    congr 1
    exact congrFun (Memref.IsWhole.read_unread _ _) _

/-- After point `s` of token block `q` the scratch holds the shared network plus experts `0 … s`. -/
theorem scr_prefix (c : Dev nD) (q : ℕ) (b : Fin 8) (l : Fin 2048) (r d : Fin 1024) (hb : q / 2 = b)
    (hl : q % 2 * 1024 + r.val = l) : ∀ (s : ℕ) (hs : s + 1 ≤ 64) (h : 64 * q + s < cfg0.N),
    (outsAt0 m c (64 * q + s) h).2 (ix2 r d)
      = sharedOf m c b l d + ∑ e : Fin (s + 1), expertOf m c b l (Fin.castLE hs e) d
  | 0, hs, h => by
    have hb' : bOf ⟨64 * q + 0, h⟩ = b := Fin.ext (by show (64 * q + 0) / 128 = _; omega)
    have hl' : lOf ⟨64 * q + 0, h⟩ r = l := Fin.ext (by show (64 * q + 0) / 64 % 2 * 1024 + r.val = _; omega)
    have he' : eOf ⟨64 * q + 0, h⟩ = Fin.castLE hs 0 := Fin.ext (by show (64 * q + 0) % 64 = 0; omega)
    have e := scr_reset m c ⟨64 * q + 0, h⟩ (by show (64 * q + 0) % 64 = 0; omega) r d
    rw [hb', hl', he'] at e
    rw [Fin.sum_univ_one]
    exact e
  | s + 1, hs, h => by
    have hb' : bOf ⟨64 * q + (s + 1), h⟩ = b := Fin.ext (by show (64 * q + (s + 1)) / 128 = _; omega)
    have hl' : lOf ⟨64 * q + (s + 1), h⟩ r = l :=
      Fin.ext (by show (64 * q + (s + 1)) / 64 % 2 * 1024 + r.val = _; omega)
    have he' : eOf ⟨64 * q + (s + 1), h⟩ = Fin.castLE hs (Fin.last (s + 1)) :=
      Fin.ext (by show (64 * q + (s + 1)) % 64 = s + 1; omega)
    have e := scr_step m c ⟨64 * q + (s + 1), h⟩ (by show ¬(64 * q + (s + 1)) % 64 = 0; omega) r d
    rw [hb', hl', he'] at e
    refine e.trans (Eq.trans (congrArg (· + _) (scr_prefix c q b l r d hb hl s (by omega) (by omega))) ?_)
    rw [Fin.sum_univ_castSucc (n := s + 1), ← add_assoc]
    rfl

/-- The block's last point writes back the closing norm of the residual plus the gated sum. -/
theorem out_last (c : Dev nD) (t : Fin cfg0.N) (h : t.val % 64 = 63) (b : Fin 8) (l : Fin 2048) (r d : Fin 1024)
    (hb : t.val / 128 = b) (hl : t.val / 64 % 2 * 1024 + r.val = l) :
    (outsAt0 m c t.val t.isLt).1 (ix3 0 r d)
      = normed (fun k => m ((c : Thread nD τ).loc main_arg0) (ix3 b l k)) (fun k => m ((c : Thread nD τ).loc main_arg1) (ix3 b 0 k))
          (fun k => sharedOf m c b l k + ∑ e, expertOf m c b l e k) (fun k => m ((c : Thread nD τ).loc main_arg10) (ix1 k)) d := by
  have hq : 64 * (t.val / 64) + 63 = t.val := by omega
  have hs : ∀ k, (outsAt0 m c t.val t.isLt).2 (ix2 r k) = sharedOf m c b l k + ∑ e, expertOf m c b l e k := by
    intro k
    have e := scr_prefix m c (t.val / 64) b l r k (by omega) hl 63 (by omega) (by rw [hq]; exact t.isLt)
    have e2 : outsAt0 m c (64 * (t.val / 64) + 63) (by rw [hq]; exact t.isLt) = outsAt0 m c t.val t.isLt := by
      congr 1
    rw [e2] at e
    exact e
  have e1 : (outsAt0 m c t.val t.isLt).1
      = k0_pay2 (iblk m c 8 t) (iblk m c 9 t) (outsAt0 m c t.val t.isLt).2 (iblk m c 10 t) := by
    rw [outsAt0_C m c t (by omega) h]
    frame_out
  rw [e1, pay2_apply]
  simp only [hs, blk8 m c t b l r _ hb hl, blk9 m c t b _ hb, blk10]

/-- THE RESULT of the experts' kernel: the layer's formula at every token and lane, from the launch's arguments. -/
theorem result_apply (c : Dev nD) (b : Fin 8) (l : Fin 2048) (d : Fin 1024) :
    Value.G11 m c (ix3 b l d)
      = layer (fun b l k => m ((c : Thread nD τ).loc main_arg0) (ix3 b l k)) (fun b k => m ((c : Thread nD τ).loc main_arg1) (ix3 b 0 k))
          (fun b l k => m ((c : Thread nD τ).loc main_arg2) (ix3 b l k)) (fun b l e => m ((c : Thread nD τ).loc main_arg3) (ix3 b l e))
          (fun e k f => m ((c : Thread nD τ).loc main_arg4) (ix3 e k f)) (fun e k f => m ((c : Thread nD τ).loc main_arg5) (ix3 e k f))
          (fun e f k => m ((c : Thread nD τ).loc main_arg6) (ix3 e f k)) (fun k f => m ((c : Thread nD τ).loc main_arg7) (ix2 k f))
          (fun k f => m ((c : Thread nD τ).loc main_arg8) (ix2 k f)) (fun f k => m ((c : Thread nD τ).loc main_arg9) (ix2 f k))
          (fun k => m ((c : Thread nD τ).loc main_arg10) (ix1 k)) b l d := by
  have hp : Value.pt11Of (ix3 b l d) = 64 * (2 * b.val + l.val / 1024) + 63 := by
    show 64 * (2 * (b.val / 1 - 0) + 1 * (l.val / 1024 - 0) + 1 * (d.val / 1024 - 0)) + 63 = _
    omega
  have hlt : Value.pt11Of (ix3 b l d) < cfg0.N := by rw [hp, show cfg0.N = 1024 from N_0]; omega
  have hloc : Value.loc11Of (ix3 b l d) = ix3 0 ⟨l.val % 1024, by omega⟩ d := by
    funext a
    match a with
    | ⟨0, _⟩ => exact Fin.ext (by show b.val % 1 = 0; omega)
    | ⟨1, _⟩ => rfl
    | ⟨2, _⟩ => exact Fin.ext (by show d.val % 1024 = d.val; omega)
  unfold Value.G11
  rw [dif_pos hlt, ← Value.outsAt0_sweep, hloc]
  exact out_last m c ⟨Value.pt11Of (ix3 b l d), hlt⟩ (by show Value.pt11Of (ix3 b l d) % 64 = 63; omega) b l ⟨l.val % 1024, by omega⟩ d
    (by show Value.pt11Of (ix3 b l d) / 128 = _; omega)
    (by show Value.pt11Of (ix3 b l d) / 64 % 2 * 1024 + l.val % 1024 = _; omega)

end Cert.Proof.Moe

end
-- ==== Proof.MoeRef.lean ====
module

public import proofs.«01_k».proof.Proof.MoeBlock
public import proofs.«01_k».proof.Proof.Gen.ReferenceIdeal.Step
public import Idealize.ShloMosaic.Lib.Pointwise

/-!
# What the experts' reference computes

The reference goes over the experts in a counted loop: its running sum after `n` trips, and its result, at an index.
-/

@[expose] public section

set_option maxRecDepth 16384

noncomputable section

namespace Cert.Proof.MoeRef

open Idealize.ShloMosaic Cert.ReferenceIdeal Cert.ReferenceIdeal.Gen Cert.ReferenceIdeal.Step

/-- The logistic function written out, as the reference's gate computes it. -/
theorem div_one_add_exp (x : EReal) : Ideal.div 1 (1 + Ideal.exp (-x)) = Ideal.logistic x := rfl

/-- The trip number as the 32-bit index the loop counts with. -/
theorem toInt_trip : ∀ e : Fin 64, (BitVec.ofNat 32 e.val).toInt = e.val := by decide

/-- A window of one leading entry, cut at a start inside the axis, reads that entry: three axes, -/
theorem slice3 {N a b : ℕ} (x : FVec Ideal (⟨3, ![N, a, b]⟩ : Shape) .f32) (start : Fin 3 → Int) (e : Fin N)
    (hf : (⟨3, ![N, a, b]⟩ : Shape).Slices (fun _ => 0) ⟨3, ![1, a, b]⟩) (h0 : start 0 = e.val) (h1 : start 1 = 0) (h2 : start 2 = 0)
    (k : Fin a) (f : Fin b) :
    Host.dynamicSlice ⟨3, ![1, a, b]⟩ x start hf (ix3 0 k f) = x (ix3 e k f) := by
  have c0 := Host.clampedStart_of_le hf.1 start 0 e.val h0 (by show e.val + 1 ≤ N; omega)
  have c1 := Host.clampedStart_of_le hf.1 start 1 0 h1 (by show 0 + a ≤ a; omega)
  have c2 := Host.clampedStart_of_le hf.1 start 2 0 h2 (by show 0 + b ≤ b; omega)
  refine congrArg x (funext fun i => Fin.ext ?_)
  match i with
  | ⟨0, _⟩ => exact c0
  | ⟨1, _⟩ => exact (congrArg (· + k.val) c1).trans (Nat.zero_add _)
  | ⟨2, _⟩ => exact (congrArg (· + f.val) c2).trans (Nat.zero_add _)

/-- and two. -/
theorem slice2 {N a : ℕ} (x : FVec Ideal (⟨2, ![N, a]⟩ : Shape) .f32) (start : Fin 2 → Int) (e : Fin N)
    (hf : (⟨2, ![N, a]⟩ : Shape).Slices (fun _ => 0) ⟨2, ![1, a]⟩) (h0 : start 0 = e.val) (h1 : start 1 = 0) (k : Fin a) :
    Host.dynamicSlice ⟨2, ![1, a]⟩ x start hf (ix2 0 k) = x (ix2 e k) := by
  have c0 := Host.clampedStart_of_le hf.1 start 0 e.val h0 (by show e.val + 1 ≤ N; omega)
  have c1 := Host.clampedStart_of_le hf.1 start 1 0 h1 (by show 0 + a ≤ a; omega)
  refine congrArg x (funext fun i => Fin.ext ?_)
  match i with
  | ⟨0, _⟩ => exact c0
  | ⟨1, _⟩ => exact (congrArg (· + k.val) c1).trans (Nat.zero_add _)

/-- The trip's gate, up and down weights are expert `e`'s. -/
theorem b3_apply (e : Fin 64) (s : State Ideal) (k : Fin 1024) (f : Fin 256) :
    b3 e.val s (ix2 k f) = s.main_v9_0 (ix3 e k f) := by
  pointwise [b3]
  unfold b2
  refine slice3 _ _ e _ ?_ ?_ ?_ k f
  · exact toInt_trip e
  · rfl
  · rfl

theorem b7_apply (e : Fin 64) (s : State Ideal) (k : Fin 1024) (f : Fin 256) :
    b7 e.val s (ix2 k f) = s.main_v9_1 (ix3 e k f) := by
  pointwise [b7]
  unfold b6
  refine slice3 _ _ e _ ?_ ?_ ?_ k f
  · exact toInt_trip e
  · rfl
  · rfl

theorem b11_apply (e : Fin 64) (s : State Ideal) (k : Fin 256) (f : Fin 1024) :
    b11 e.val s (ix2 k f) = s.main_v9_2 (ix3 e k f) := by
  pointwise [b11]
  unfold b10
  refine slice3 _ _ e _ ?_ ?_ ?_ k f
  · exact toInt_trip e
  · rfl
  · rfl

/-- The trip's routing weights are the tokens' weights for expert `e`. -/
theorem b14_apply (e : Fin 64) (s : State Ideal) (n : Fin 16384) :
    b14 e.val s (ix1 n) = s.main_v9_3 (ix2 e n) := by
  pointwise [b14]
  unfold b13
  refine slice2 _ _ e _ ?_ ?_ n
  · exact toInt_trip e
  · rfl

/-- ONE TRIP adds expert `e`'s network, scaled by the token's routing weight for it. -/
theorem trip_apply (e : Fin 64) (s : State Ideal) (n : Fin 16384) (d : Fin 1024) :
    (step e.val s).main_v9_6 (ix2 n d)
      = (s.main_v9_6 (ix2 n d) + s.main_v9_3 (ix2 e n)
          * Moe.ffn (fun k => s.main_v9_4 (ix2 n k)) (fun k f => s.main_v9_0 (ix3 e k f)) (fun k f => s.main_v9_1 (ix3 e k f))
              (fun f => s.main_v9_2 (ix3 e f d)) : EReal) := by
  rw [step_main_v9_6]
  pointwise [b31, b30, b29, b28, b27, b26, b25, b24, b23, b22, b21, b20, b19, b18, b17, b16, b15]
  simp only [b3_apply, b7_apply, b11_apply, b14_apply, div_one_add_exp]
  rfl

/-- The reference's result: the closing norm of the residual plus the gated running sum. -/
theorem R_apply (s : State Ideal) (x : FVec Ideal S8x2048x1024 .f32) (g : FVec Ideal S8x1x1024 .f32) (w : FVec Ideal S1024 .f32)
    (b : Fin 8) (l : Fin 2048) (d : Fin 1024) : R_main_v26 s x g w (ix3 b l d)
      = Moe.normed (fun k => x (ix3 b l k)) (fun k => g (ix3 b 0 k))
          (fun k => s.main_v9_6 (ix2 ⟨b.val * 2048 + l.val, by omega⟩ k)) (fun k => w (ix1 k)) d := by
  pointwise [R_main_v26]
  rfl

variable (a4 a5 : FVec Ideal S64x1024x256 .f32) (a6 : FVec Ideal S64x256x1024 .f32) (a2 : FVec Ideal S8x2048x1024 .bf16)
  (a3 : FVec Ideal S8x2048x64 .f32) (a7 a8 : FVec Ideal S1024x256 .f32) (a9 : FVec Ideal S256x1024 .f32)

/-- The loop's state after `n` trips. -/
def iter : ℕ → State Ideal
  | 0 => init a4 a5 a6 a2 a3 a7 a8 a9
  | n + 1 => step n (iter n)

theorem iter_0 (n : ℕ) : (iter a4 a5 a6 a2 a3 a7 a8 a9 n).main_v9_0 = a4 := by
  induction n with
  | zero => rfl
  | succ n ih => exact ih
theorem iter_1 (n : ℕ) : (iter a4 a5 a6 a2 a3 a7 a8 a9 n).main_v9_1 = a5 := by
  induction n with
  | zero => rfl
  | succ n ih => exact ih
theorem iter_2 (n : ℕ) : (iter a4 a5 a6 a2 a3 a7 a8 a9 n).main_v9_2 = a6 := by
  induction n with
  | zero => rfl
  | succ n ih => exact ih
theorem iter_3 (n : ℕ) : (iter a4 a5 a6 a2 a3 a7 a8 a9 n).main_v9_3 = A_main_v8 a2 a3 a7 a8 a9 := by
  induction n with
  | zero => rfl
  | succ n ih => exact ih
theorem iter_4 (n : ℕ) : (iter a4 a5 a6 a2 a3 a7 a8 a9 n).main_v9_4 = A_main_v1 a2 a3 a7 a8 a9 := by
  induction n with
  | zero => rfl
  | succ n ih => exact ih

/-- The loop reads the routing weights by expert and flattened token. -/
theorem comb_apply (e : Fin 64) (b : Fin 8) (l : Fin 2048) :
    A_main_v8 (F := Ideal) a2 a3 a7 a8 a9 (ix2 e ⟨b.val * 2048 + l.val, by omega⟩) = (a3 (ix3 b l e) : EReal) := by
  pointwise [A_main_v8, A_main_v2]
  all_goals (congr 2 <;> exact Fin.ext (by dsimp only; omega))

/-- The loop reads the tokens by flattened token. -/
theorem tok_apply (b : Fin 8) (l : Fin 2048) (k : Fin 1024) :
    A_main_v1 (F := Ideal) a2 a3 a7 a8 a9 (ix2 ⟨b.val * 2048 + l.val, by omega⟩ k) = (a2 (ix3 b l k) : EReal) := by
  pointwise [A_main_v1, A_main_v0]
  all_goals (congr 2 <;> exact Fin.ext (by dsimp only; omega))

/-- The loop's running sum starts at the shared network's output. -/
theorem start_apply (b : Fin 8) (l : Fin 2048) (d : Fin 1024) :
    A_main_v7 (F := Ideal) a2 a3 a7 a8 a9 (ix2 ⟨b.val * 2048 + l.val, by omega⟩ d)
      = (Moe.ffn (fun k => a2 (ix3 b l k)) (fun k f => a7 (ix2 k f)) (fun k f => a8 (ix2 k f)) (fun f => a9 (ix2 f d)) : EReal) := by
  have hb : (⟨(b.val * 2048 + l.val) / 2048, by omega⟩ : Fin 8) = b := Fin.ext (by dsimp only; omega)
  have hl : (⟨(b.val * 2048 + l.val) % 2048, by omega⟩ : Fin 2048) = l := Fin.ext (by dsimp only; omega)
  pointwise [A_main_v7, A_main_v6, A_main_v5, A_main_v4, A_main_v3, A_main_v1, A_main_v0, A_main_call0_v5, A_main_call0_v3,
    A_main_call0_v1, A_main_call0_v0, K_main_call0_v2, K_main_call0_cst, K_main_call0_v4, K_main_call0_cst_0]
  simp only [hb, hl, div_one_add_exp]
  rfl

/-- THE RUNNING SUM after `n` trips: the shared network plus the first `n` experts, each scaled by its routing weight. -/
theorem iter_apply (b : Fin 8) (l : Fin 2048) (d : Fin 1024) : ∀ (n : ℕ) (hn : n ≤ 64),
    (iter a4 a5 a6 a2 a3 a7 a8 a9 n).main_v9_6 (ix2 ⟨b.val * 2048 + l.val, by omega⟩ d)
      = Moe.ffn (fun k => a2 (ix3 b l k)) (fun k f => a7 (ix2 k f)) (fun k f => a8 (ix2 k f)) (fun f => a9 (ix2 f d))
        + ∑ e : Fin n, a3 (ix3 b l (Fin.castLE hn e))
            * Moe.ffn (fun k => a2 (ix3 b l k)) (fun k f => a4 (ix3 (Fin.castLE hn e) k f)) (fun k f => a5 (ix3 (Fin.castLE hn e) k f))
                (fun f => a6 (ix3 (Fin.castLE hn e) f d))
  | 0, _ => by
    rw [Fin.sum_univ_zero, add_zero]
    exact start_apply a2 a3 a7 a8 a9 b l d
  | n + 1, hn => by
    have e := trip_apply ⟨n, hn⟩ (iter a4 a5 a6 a2 a3 a7 a8 a9 n) ⟨b.val * 2048 + l.val, by omega⟩ d
    rw [iter_0, iter_1, iter_2, iter_3, iter_4, comb_apply] at e
    simp only [tok_apply] at e
    refine e.trans (Eq.trans (congrArg (· + _) (iter_apply b l d n (by omega))) ?_)
    rw [Fin.sum_univ_castSucc (n := n), ← add_assoc]
    rfl

end Cert.Proof.MoeRef

end
-- ==== Proof.MoeEq.lean ====
module

public import proofs.«01_k».proof.Defs
public import proofs.«01_k».proof.Proof.MoeFold
public import proofs.«01_k».proof.Proof.MoeRef
public import proofs.«01_k».proof.Proof.Gen.ReferenceIdeal.StepRun
public import Idealize.ShloMosaic.Lib.ReduceAll
public import Idealize.ShloMosaic.Lib.Quiescent

/-!
# The experts' kernel equals the experts' reference

A routing weight that is neither negative nor infinite may be multiplied into each activation or into the expert's whole
output; with that the two results are one formula.
-/

@[expose] public section

set_option maxRecDepth 16384

noncomputable section

namespace Cert.Proof.MoeEq

open Idealize.ShloMosaic Idealize.SL.Sem

/-- The precondition's side conditions. -/
theorem preFacts : Cert.Pre_weights_nonneg.Facts where
  bcast_S_S8x2048x64 := by decide
  reducesTo_S8x2048x64_S_d0_1_2 := by decide
  h_S_ := by decide

/-- The kernel's routing weights. -/
abbrev wts (m : (ℓ : Loc KernelIdeal.nD KernelIdeal.τ KernelIdeal.sig) → Buf (Elt Ideal) ℓ) (c : Dev KernelIdeal.nD) :
    FVec Ideal KernelIdeal.S8x2048x64 .f32 :=
  m ((c.tc : Thread KernelIdeal.nD KernelIdeal.τ).loc KernelIdeal.main_arg3)

/-- What the precondition says of one routing weight. -/
theorem weight_ok [Cert.Pre_weights_nonneg.Facts] (m : (ℓ : Loc KernelIdeal.nD KernelIdeal.τ KernelIdeal.sig) → Buf (Elt Ideal) ℓ)
    (h : Cert.Pre_KernelIdeal_weights_nonneg m) (c : Dev KernelIdeal.nD) (b : Fin 8) (l : Fin 2048) (e : Fin 64) :
    (0 : EReal) ≤ wts m c (ix3 b l e) ∧ (wts m c (ix3 b l e) : EReal) ≠ ⊤ := by
  have h0 := congrFun (h c) (Shape.Idx.first (by decide))
  unfold Cert.Pre_weights_nonneg.fn at h0
  dsimp only at h0
  have : Subsingleton Cert.Pre_weights_nonneg.S_.Idx := ⟨fun a b => funext fun i => i.elim0⟩
  have hall := Host.reduce_andi_all _ _ _ _ _ h0 (ix3 b l e)
  have hz : Ideal.ofBits .f32 0x00000000#32 = 0 := by simp [Ideal.ofBits, Ideal.ieee]
  have htop : Ideal.ofBits .f32 0x7F800000#32 = ⊤ := by simp [Ideal.ofBits, Ideal.ieee]
  have hx : IntOp.andi (BitVec.ofBool (decide (wts m c (ix3 b l e) ≥ Ideal.ofBits .f32 0x00000000#32)))
      (BitVec.ofBool (decide (wts m c (ix3 b l e) < Ideal.ofBits .f32 0x7F800000#32))) = 1#1 := hall
  rw [hz, htop] at hx
  by_cases p : wts m c (ix3 b l e) ≥ 0 <;> by_cases q : wts m c (ix3 b l e) < ⊤
  · exact ⟨p, q.ne⟩
  all_goals exfalso; revert hx; simp only [p, q, decide_true, decide_false]; decide

/-- A weight `0 ≤ c < ∞` distributes over a finite sum of extended reals. -/
theorem mul_sum (c : EReal) (h0 : 0 ≤ c) (h1 : c ≠ ⊤) {n : ℕ} (f : Fin n → EReal) : c * ∑ i, f i = ∑ i, c * f i := by
  induction n with
  | zero => simp
  | succ n ih => rw [Fin.sum_univ_castSucc, Fin.sum_univ_castSucc, EReal.left_distrib_of_nonneg_of_ne_top h0 h1, ih]

/-- Scaling each activation by such a weight is scaling the network's output by it. -/
theorem scaled_eq (c : EReal) (h0 : 0 ≤ c) (h1 : c ≠ ⊤) (h : Fin 1024 → EReal) (g u : Fin 1024 → Fin 256 → EReal) (w : Fin 256 → EReal) :
    Moe.scaled c h g u w = c * Moe.ffn h g u w := by
  unfold Moe.scaled Moe.ffn
  rw [mul_sum c h0 h1]
  exact Finset.sum_congr rfl fun f _ => by rw [mul_comm _ c, mul_assoc]

/-- `Cert.quiescent_ReferenceIdeal`: the reference ends with its arguments unchanged. -/
theorem frame_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- `Cert.algebraic_KernelIdeal_ReferenceIdeal_pre_weights_nonneg`: with routing weights that are neither negative nor infinite
    the two programs end with equal results. -/
theorem algebraic : Cert.algebraic_KernelIdeal_ReferenceIdeal_pre_weights_nonneg (hKernelIdeal := Cert.KernelIdeal.Gen.facts)
    (hReferenceIdeal := Cert.ReferenceIdeal.Gen.facts) (hPre_weights_nonneg := preFacts) := by
  intro m ρ m' ρ' hpre hagree
  haveI := preFacts
  refine ⟨fun c => Cert.KernelIdeal.Value.G11 m c, Cert.KernelIdeal.Value.run m ρ, ?_⟩
  have hrun := Cert.ReferenceIdeal.StepRun.run_iter (F := Ideal) m' ρ'
    (fun c => MoeRef.iter (m' ((c.tc : Thread ReferenceIdeal.nD ReferenceIdeal.τ).loc ReferenceIdeal.main_arg4))
      (m' ((c.tc : Thread ReferenceIdeal.nD ReferenceIdeal.τ).loc ReferenceIdeal.main_arg5))
      (m' ((c.tc : Thread ReferenceIdeal.nD ReferenceIdeal.τ).loc ReferenceIdeal.main_arg6))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg7))
      (m' ((c.tc : Thread ReferenceIdeal.nD ReferenceIdeal.τ).loc ReferenceIdeal.main_arg8))
      (m' ((c.tc : Thread ReferenceIdeal.nD ReferenceIdeal.τ).loc ReferenceIdeal.main_arg9))) (fun c => rfl) (fun c n => rfl)
  refine (θ_run _ _ _).mono (fun _ h c => ⟨(h c).1.trans ?_, (h c).2⟩) hrun
  obtain ⟨a0, a1, a2, a3, a4, a5, a6, a7, a8, a9, a10⟩ := hagree c
  funext i
  obtain ⟨b, l, d, rfl⟩ : ∃ (b : Fin 8) (l : Fin 2048) (d : Fin 1024), i = ix3 b l d :=
    ⟨i 0, i 1, i 2, funext fun a => by match a with | ⟨0, _⟩ => rfl | ⟨1, _⟩ => rfl | ⟨2, _⟩ => rfl⟩
  rw [MoeRef.R_apply]
  refine Eq.trans ?_ (Moe.result_apply m c b l d).symm
  unfold Moe.layer
  have hs : ∀ (e : Fin 64) (h : Fin 1024 → EReal) (g u : Fin 1024 → Fin 256 → EReal) (w : Fin 256 → EReal),
      Moe.scaled (wts m c (ix3 b l e)) h g u w = wts m c (ix3 b l e) * Moe.ffn h g u w :=
    fun e => scaled_eq _ (weight_ok m hpre c b l e).1 (weight_ok m hpre c b l e).2
  simp only [MoeRef.iter_apply _ _ _ _ _ _ _ _ b l _ 64 le_rfl, hs,
    a0, a1, a2, a3, a4, a5, a6, a7, a8, a9, a10]
  rfl

end Cert.Proof.MoeEq

end
-- ==== Proof.RetSpec.lean ====
module

public import Idealize.ShloMosaic.Lib.Pointwise

/-!
# Retention of one head, as formulas

One head has 64 lanes and 2048 tokens, cut into 16 chunks of 128. Inside a chunk a token reads the tokens before it with a
decay of its distance; what lies before the chunk it reads through a 64 × 64 state that each chunk carries on.
-/

@[expose] public section

noncomputable section

namespace Cert.Proof.Ret

open Idealize.ShloMosaic

/-- Rotary position: lane `e` of the lower half is paired with lane `e + 32`; `c`, `s` are the token's cosines and sines. -/
def rot (x : Fin 64 → EReal) (c s : Fin 32 → EReal) (e : Fin 64) : EReal :=
  if h : e.val < 32 then x e * c ⟨e.val, h⟩ - x ⟨e.val + 32, by omega⟩ * s ⟨e.val, h⟩
  else x ⟨e.val - 32, by omega⟩ * s ⟨e.val - 32, by omega⟩ + x e * c ⟨e.val - 32, by omega⟩

/-- The decay of token `j` seen from token `i` of one chunk, for a head of log-decay `lg`: none of a later token. -/
def mask (lg : EReal) (i j : Fin 128) : EReal :=
  if j.val ≤ i.val then Ideal.exp (lg * (((i.val - j.val : ℕ) : ℝ) : EReal)) else 0

/-- The decay of the carried state seen from token `i` of a chunk. -/
def qdec (lg : EReal) (i : Fin 128) : EReal := Ideal.exp (lg * (((i.val : ℝ) : EReal) + 1))

/-- The decay from token `i` of a chunk to the chunk's end. -/
def kdec (lg : EReal) (i : Fin 128) : EReal := Ideal.exp (lg * (Ideal.ofBits .f32 0x42FE0000#32 - ((i.val : ℝ) : EReal)))

/-- The decay of the state over a chunk. -/
def cdec (lg : EReal) : EReal := Ideal.exp (lg * Ideal.ofBits .f32 0x43000000#32)

/-- What token `i` of a chunk reads, lane `e`: its chunk through the masked products, the state `s` through its query. -/
def read (lg : EReal) (q k v : Fin 128 → Fin 64 → EReal) (s : Fin 64 → Fin 64 → EReal) (i : Fin 128) (e : Fin 64) : EReal :=
  ∑ j, (∑ d, q i d * k j d) * mask lg i j * v j e + ∑ d, q i d * qdec lg i * s d e

/-- The state after a chunk. -/
def carry (lg : EReal) (k v : Fin 128 → Fin 64 → EReal) (s : Fin 64 → Fin 64 → EReal) (d e : Fin 64) : EReal :=
  s d e * cdec lg + ∑ j, k j d * kdec lg j * v j e

/-- Token `i` of chunk `n`. -/
def tok (n : ℕ) (i : Fin 128) : Fin 2048 := ⟨(n * 128 + i.val) % 2048, Nat.mod_lt _ (by omega)⟩

/-- The state before chunk `n`. -/
def state (lg : EReal) (k v : Fin 2048 → Fin 64 → EReal) (s0 : Fin 64 → Fin 64 → EReal) : ℕ → Fin 64 → Fin 64 → EReal
  | 0 => s0
  | n + 1 => carry lg (fun i => k (tok n i)) (fun i => v (tok n i)) (state lg k v s0 n)

/-- What token `i` of chunk `n` reads. -/
def out (lg : EReal) (q k v : Fin 2048 → Fin 64 → EReal) (s0 : Fin 64 → Fin 64 → EReal) (n : ℕ) (i : Fin 128) : Fin 64 → EReal :=
  read lg (fun i => q (tok n i)) (fun i => k (tok n i)) (fun i => v (tok n i)) (state lg k v s0 n) i

/-- A row of 64 lanes minus its mean. -/
def centred (o : Fin 64 → EReal) (e : Fin 64) : EReal := o e - Ideal.div (∑ d, o d) (Ideal.ofBits .f32 0x42800000#32)

/-- The row normalized over its 64 lanes, scaled and shifted by the head's weights. -/
def headNorm (o w b : Fin 64 → EReal) (e : Fin 64) : EReal :=
  centred o e * Ideal.rsqrt (Ideal.div (∑ d, centred o d * centred o d) (Ideal.ofBits .f32 0x42800000#32)
    + Ideal.ofBits .f32 0x3727C5AC#32) * w e + b e

/-- The output gated by `x · σ(x)` of the gate. -/
def gated (o w b g : Fin 64 → EReal) (e : Fin 64) : EReal := headNorm o w b e * (g e * Ideal.logistic (g e))

/-! The layer's retention from its arguments: `x` the projected rows (queries, keys, values and gates, 512 lanes each), `s0` the
states before the first token, `w`, `v` the norm's scale and shift. -/

/-- Lane `e` of head `h` in the `j`-th group of 512 lanes of a projected row, and in one group. -/
def col (j : Fin 4) (h : Fin 8) (e : Fin 64) : Fin 2048 := ⟨j.val * 512 + h.val * 64 + e.val, by omega⟩
def unit (h : Fin 8) (e : Fin 64) : Fin 512 := ⟨h.val * 64 + e.val, by omega⟩

/-- The head that is number `p` of pair `r`. -/
def head (r : Fin 4) (p : Fin 2) : Fin 8 := ⟨2 * r.val + p.val, by omega⟩

/-- A number as a float. -/
def num (n : ℕ) : EReal := FloatOps.sitofp (F := Ideal) .f32 (BitVec.ofNat 32 n)

/-- Token `l`'s rotary angle at frequency `f`: `l · 10000 ^ (-f / 32)`. -/
def angle (l : Fin 2048) (f : Fin 32) : EReal :=
  num l.val * Ideal.pow (Ideal.ofBits .f32 0x461C4000#32) (Ideal.div (-num f.val) (Ideal.ofBits .f32 0x42000000#32))

/-- Head `h`'s log-decay: `log (1 - 2 ^ (-5 - h))`. -/
def logDecay (h : Fin 8) : EReal :=
  Ideal.log1p (-Ideal.exp (Ideal.ofBits .f32 0x3F317218#32 * (Ideal.ofBits .f32 0xC0A00000#32 - num h.val)))

section layer

variable (x : Fin 8 → Fin 2048 → Fin 2048 → EReal) (s0 : Fin 8 → Fin 8 → Fin 64 → Fin 64 → EReal) (w v : Fin 512 → EReal)

/-- The rotated query, the rotated and scaled key, the value of a head. -/
def query (b : Fin 8) (h : Fin 8) (l : Fin 2048) (e : Fin 64) : EReal :=
  rot (fun e => x b l (col 0 h e)) (fun f => Ideal.cos (angle l f)) (fun f => Ideal.sin (angle l f)) e
def key (b : Fin 8) (h : Fin 8) (l : Fin 2048) (e : Fin 64) : EReal :=
  rot (fun e => x b l (col 1 h e)) (fun f => Ideal.cos (angle l f)) (fun f => Ideal.sin (angle l f)) e
    * Ideal.ofBits .f32 0x3E000000#32
def value (b : Fin 8) (h : Fin 8) (l : Fin 2048) (e : Fin 64) : EReal := x b l (col 2 h e)

/-- The head's state before chunk `n`, what token `i` of that chunk reads, and the layer's output there. -/
def states (b : Fin 8) (h : Fin 8) (n : ℕ) : Fin 64 → Fin 64 → EReal :=
  state (logDecay h) (key x b h) (value x b h) (s0 b h) n
def reads (b : Fin 8) (h : Fin 8) (n : ℕ) (i : Fin 128) : Fin 64 → EReal :=
  out (logDecay h) (query x b h) (key x b h) (value x b h) (s0 b h) n i
def result (b : Fin 8) (h : Fin 8) (n : ℕ) (i : Fin 128) (e : Fin 64) : EReal :=
  gated (reads x s0 b h n i) (fun e => w (unit h e)) (fun e => v (unit h e)) (fun e => x b (tok n i) (col 3 h e)) e

/-- The states of a pair of heads before chunk `n` as one array: zero between lanes of two heads. -/
def pair (b : Fin 8) (r : Fin 4) (n : ℕ) (p q : Fin 2) (d e : Fin 64) : EReal :=
  if p = q then states x s0 b (head r p) n d e else 0

end layer

end Cert.Proof.Ret

end
-- ==== Proof.RetBlock.lean ====
module

public import proofs.«01_k».proof.Proof.RetSpec
public import proofs.«01_k».proof.Proof.Gen.Kernel2Ideal.Skeleton
public import Idealize.ShloMosaic.Lib.Pointwise

/-!
# What one grid point of the retention kernel computes

A block row of 128 lanes holds a pair of heads. Each of the kernel's stored values, read at a lane of one head, is the
formula of that head alone: the other head's lanes enter a sum as zeros.
-/

@[expose] public section

set_option maxRecDepth 16384

noncomputable section

namespace Cert.Proof.Ret

open Idealize.ShloMosaic Cert.Kernel2Ideal Cert.Kernel2Ideal.Gen

/-- Lane `e` of head `p` of a pair. -/
def lane (p : Fin 2) (e : Fin 64) : Fin 128 := ⟨p.val * 64 + e.val, by omega⟩

/-- The value of head `p` of a pair. -/
def two (a b : EReal) (p : Fin 2) : EReal := if p.val = 0 then a else b

/-- A sum over the 128 lanes is the two heads' sums. -/
theorem sum_lanes (f : Fin 128 → EReal) : ∑ l, f l = ∑ e, f (lane 0 e) + ∑ e, f (lane 1 e) := by
  rw [Fin.sum_univ_add (a := 64) (b := 64) f]
  refine congrArg₂ _ (Finset.sum_congr rfl fun e _ => congrArg f (Fin.ext ?_)) (Finset.sum_congr rfl fun e _ => congrArg f (Fin.ext ?_))
  · simp [lane]
  · simp [lane, add_comm]

/-- Every lane is a lane of one of the heads. -/
theorem lane_surj (l : Fin 128) : ∃ p e, l = lane p e :=
  ⟨⟨l.val / 64, by omega⟩, ⟨l.val % 64, by omega⟩, Fin.ext (by simp only [lane]; omega)⟩

/-- A bit made from a decidable fact selects by it. -/
theorem select_ofBool {α : Type} (c : Prop) [Decidable c] (x y : α) : Scalar.select (BitVec.ofBool (decide c)) x y = if c then x else y := by
  by_cases h : c <;> simp [Scalar.select, h]

/-- Which lanes belong to the first head, and which to the lower half of their head. -/
theorem lo_apply (r : Fin 128) (p : Fin 2) (e : Fin 64) : k0_pay4 (ix2 r (lane p e)) = BitVec.ofBool (decide (p.val = 0)) := by
  pointwise [k0_pay4]
  revert e p; decide

theorem lo32_apply (r : Fin 128) (p : Fin 2) (e : Fin 64) : k0_pay5 (ix2 r (lane p e)) = BitVec.ofBool (decide (e.val < 32)) := by
  pointwise [k0_pay5]
  revert e p; decide

/-- Which keys a query of the chunk sees. -/
theorem causal_apply (i j : Fin 128) : k0_pay15 (ix2 i j) = BitVec.ofBool (decide (j.val ≤ i.val)) := by
  pointwise [k0_pay15]
  revert i j; decide +kernel

/-- Which entries of the state join lanes of one head. -/
theorem same_apply (p q : Fin 2) (d e : Fin 64) : k0_pay21 (ix2 (lane p d) (lane q e)) = BitVec.ofBool (decide (p = q)) := by
  pointwise [k0_pay21]
  have h : ∀ (p : Fin 2) (d : Fin 64), IntOp.cmpi CmpIPredicate.slt (BitVec.ofNat 32 (lane p d).val) 64#32 = BitVec.ofBool (decide (p.val = 0)) := by decide
  rw [h, h]
  revert p q; decide

/-- A token's number in its chunk, as a real. -/
theorem ti_apply (i l : Fin 128) : k0_pay11 (F := Ideal) (ix2 i l) = (((i.val : ℝ) : EReal) : EReal) := by
  pointwise [k0_pay11]
  have h : ∀ i : Fin 128, (BitVec.ofNat 32 i.val).toInt = (i.val : ℤ) := by decide
  show (((BitVec.ofNat 32 i.val).toInt : ℝ) : EReal) = _
  rw [h]; norm_cast

/-- The distance from key to query, as a real. -/
theorem diff_apply (i j : Fin 128) : k0_pay14 (F := Ideal) (ix2 i j) = ((((i.val - j.val : ℕ) : ℝ) : EReal) : EReal) := by
  pointwise [k0_pay14]
  have h : ∀ i j : Fin 128, (IntOp.maxsi (IntOp.subi (BitVec.ofNat 32 i.val) (BitVec.ofNat 32 j.val)) 0#32).toInt = ((i.val - j.val : ℕ) : ℤ) := by
    decide +kernel
  show (((IntOp.maxsi (IntOp.subi (BitVec.ofNat 32 i.val) (BitVec.ofNat 32 j.val)) 0#32).toInt : ℝ) : EReal) = _
  rw [h]; norm_cast

/-- A head's log-decay on its lanes. -/
theorem lg_apply (a b : EReal) (r : Fin 128) (p : Fin 2) (e : Fin 64) : k0_pay6 (F := Ideal) a b (ix2 r (lane p e)) = (two a b p : EReal) := by
  pointwise [k0_pay6]
  rw [lo_apply, select_ofBool]; rfl

theorem qdec_apply (a b : EReal) (i : Fin 128) (p : Fin 2) (e : Fin 64) :
    k0_pay12 (k0_pay6 (F := Ideal) a b) (ix2 i (lane p e)) = (qdec (two a b p) i : EReal) := by
  pointwise [k0_pay12]
  rw [lg_apply, ti_apply]; rfl

theorem kdec_apply (a b : EReal) (i : Fin 128) (p : Fin 2) (e : Fin 64) :
    k0_pay13 (k0_pay6 (F := Ideal) a b) (ix2 i (lane p e)) = (kdec (two a b p) i : EReal) := by
  pointwise [k0_pay13]
  rw [lg_apply, ti_apply]; rfl

theorem cdec_apply (a b : EReal) (p : Fin 2) (d : Fin 64) (l : Fin 128) :
    k0_pay22 (F := Ideal) a b (ix2 (lane p d) l) = (cdec (two a b p) : EReal) := by
  pointwise [k0_pay22]
  have h : ∀ (p : Fin 2) (d : Fin 64), IntOp.cmpi CmpIPredicate.slt (BitVec.ofNat 32 (lane p d).val) 64#32 = BitVec.ofBool (decide (p.val = 0)) := by decide
  rw [h, select_ofBool]; rfl

/-- The rotary step at a lane: the tables repeat the cosines in every half and hold the sines with a minus in the lower. -/
theorem rot_apply (c s : FVec Ideal S128x128 .f32) (x : Vec Ideal S1x128x128 .f32) (cs sn : Fin 128 → Fin 32 → EReal)
    (hc : ∀ i p (e : Fin 64), c (ix2 i (lane p e)) = (cs i ⟨e.val % 32, by omega⟩ : EReal))
    (hs : ∀ i p (e : Fin 64), s (ix2 i (lane p e)) = (if e.val < 32 then -sn i ⟨e.val % 32, by omega⟩ else sn i ⟨e.val % 32, by omega⟩ : EReal))
    (i : Fin 128) (p : Fin 2) (e : Fin 64) :
    k0_pay9 k0_pay5 c s x (ix2 i (lane p e)) = (rot (fun e => x (ix3 0 i (lane p e))) (cs i) (sn i) e : EReal) := by
  pointwise [k0_pay9]
  rw [lo32_apply, select_ofBool, hc, hs]
  unfold rot
  by_cases h : e.val < 32
  · have e1 : (⟨((lane p e).val + 128 - 96) % 128, by omega⟩ : Fin 128) = lane p ⟨e.val + 32, by omega⟩ := Fin.ext (by simp only [lane]; omega)
    have e2 : (⟨e.val % 32, by omega⟩ : Fin 32) = ⟨e.val, h⟩ := Fin.ext (by simp only []; omega)
    simp only [if_pos h, dif_pos h, e1, e2]
    rw [mul_neg, sub_eq_add_neg]
  · have e1 : (⟨((lane p e).val + 128 - 32) % 128, by omega⟩ : Fin 128) = lane p ⟨e.val - 32, by omega⟩ := Fin.ext (by simp only [lane]; omega)
    have e2 : (⟨e.val % 32, by omega⟩ : Fin 32) = ⟨e.val - 32, by omega⟩ := Fin.ext (by simp only []; omega)
    simp only [if_neg h, dif_neg h, e1, e2]
    rw [add_comm]

/-- The key is the rotary step times one eighth. -/
theorem key_apply (c s : FVec Ideal S128x128 .f32) (x : Vec Ideal S1x128x128 .f32) (i l : Fin 128) :
    k0_pay10 k0_pay5 c s x (ix2 i l) = (k0_pay9 k0_pay5 c s x (ix2 i l) * Ideal.ofBits .f32 0x3E000000#32 : EReal) := by
  pointwise [k0_pay10, k0_pay9]

/-- The same key rounded, which here changes nothing, and the value. -/
theorem keyb_apply (c s : FVec Ideal S128x128 .f32) (x : Vec Ideal S1x128x128 .f32) (i l : Fin 128) :
    k0_pay16 k0_pay5 c s x (ix2 i l) = (k0_pay10 k0_pay5 c s x (ix2 i l) : EReal) := by
  pointwise [k0_pay16]

theorem val_apply (x : Vec Ideal S1x128x128 .f32) (i l : Fin 128) : k0_pay17 x (ix2 i l) = (x (ix3 0 i l) : EReal) := by
  pointwise [k0_pay17]

/-- What a token reads: its chunk through the masked products, and the carried state, which joins no lanes of two heads. -/
theorem read_apply (a b : EReal) (q : FVec Ideal S128x128 .f32) (k v : FVec Ideal S128x128 .bf16) (st : Vec Ideal S128x128 .f32)
    (hoff : ∀ p p' d e, p ≠ p' → st (ix2 (lane p d) (lane p' e)) = (0 : EReal)) (i : Fin 128) (p : Fin 2) (e : Fin 64) :
    k0_pay20 k0_pay4 b q (k0_pay12 (k0_pay6 a b)) (k0_pay14 (F := Ideal)) k0_pay15 k v (k0_pay18 a) (k0_pay19 (F := Ideal)) st (ix2 i (lane p e))
      = (read (two a b p) (fun i e => q (ix2 i (lane p e))) (fun i e => k (ix2 i (lane p e))) (fun i e => v (ix2 i (lane p e)))
          (fun d e => st (ix2 (lane p d) (lane p e))) i e : EReal) := by
  pointwise [k0_pay20, k0_pay18, k0_pay19]
  have hx : ∀ p : Fin 2, IntOp.xori (BitVec.ofBool (decide (p.val = 0))) 1#1 = BitVec.ofBool (decide (p.val = 1)) := by decide
  unfold read mask
  simp only [sum_lanes, lo_apply, hx, select_ofBool, causal_apply, diff_apply, qdec_apply]
  match p with
  | 0 =>
    simp only [hoff 1 0 _ _ (by decide), mul_zero]
    simp [two]
  | 1 =>
    simp only [hoff 0 1 _ _ (by decide), mul_zero]
    simp [two]

/-- The state after the chunk, inside one head, -/
theorem carry_apply (a b : EReal) (k : FVec Ideal S128x128 .f32) (v : FVec Ideal S128x128 .bf16) (st : Vec Ideal S128x128 .f32)
    (p : Fin 2) (d e : Fin 64) :
    k0_pay23 k (k0_pay13 (k0_pay6 a b)) v st k0_pay21 (k0_pay22 a b) (ix2 (lane p d) (lane p e))
      = (carry (two a b p) (fun i e => k (ix2 i (lane p e))) (fun i e => v (ix2 i (lane p e)))
          (fun d e => st (ix2 (lane p d) (lane p e))) d e : EReal) := by
  pointwise [k0_pay23]
  simp only [same_apply, select_ofBool, kdec_apply, cdec_apply, if_true]
  rfl

/-- and between two heads, where it stays zero. -/
theorem carry_off (a b : EReal) (k : FVec Ideal S128x128 .f32) (v : FVec Ideal S128x128 .bf16) (st : Vec Ideal S128x128 .f32)
    (p p' : Fin 2) (d e : Fin 64) (h : p ≠ p') (hoff : st (ix2 (lane p d) (lane p' e)) = (0 : EReal)) :
    k0_pay23 k (k0_pay13 (k0_pay6 a b)) v st k0_pay21 (k0_pay22 a b) (ix2 (lane p d) (lane p' e)) = (0 : EReal) := by
  pointwise [k0_pay23]
  simp only [same_apply, select_ofBool, if_neg h, hoff, zero_mul, add_zero]

/-- The state stored. -/
theorem stored_apply (k : FVec Ideal S128x128 .f32) (kd : FVec Ideal S128x128 .f32) (v : FVec Ideal S128x128 .bf16) (st : Vec Ideal S128x128 .f32)
    (sm : IVec S128x128 1) (cd : FVec Ideal S128x128 .f32) (r l : Fin 128) :
    k0_pay24 k kd v st sm cd (ix2 r l) = (k0_pay23 k kd v st sm cd (ix2 r l) : EReal) := by
  pointwise [k0_pay24]

/-- Times the word of one 64th is division by the word of 64. -/
theorem mul_64th (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- A pair's head sum over the lanes. -/
theorem pair_sum (f : Fin 128 → EReal) (r : Fin 128) (p : Fin 2) :
    (if p.val = 0 then ∑ l, Scalar.select (k0_pay4 (ix2 r l)) (f l) 0 else ∑ l, Scalar.select (k0_pay4 (ix2 r l)) 0 (f l))
      = ∑ e, f (lane p e) := by
  simp only [sum_lanes, lo_apply, select_ofBool]
  match p with
  | 0 => simp
  | 1 => simp

/-- A row minus its head's mean. -/
theorem centred_apply (o : FVec Ideal S128x128 .f32) (i : Fin 128) (p : Fin 2) (e : Fin 64) :
    k0_pay25 k0_pay4 o (ix2 i (lane p e)) = (centred (fun e => o (ix2 i (lane p e))) e : EReal) := by
  pointwise [k0_pay25]
  rw [lo_apply, select_ofBool, pair_sum (fun l => o (ix2 i l)), mul_64th]
  rfl

/-- The head's variance plus the norm's constant. -/
theorem var_apply (o : FVec Ideal S128x128 .f32) (i : Fin 128) (p : Fin 2) (e : Fin 64) :
    k0_pay26 k0_pay4 o (ix2 i (lane p e))
      = (Ideal.div (∑ d, centred (fun e => o (ix2 i (lane p e))) d * centred (fun e => o (ix2 i (lane p e))) d) (Ideal.ofBits .f32 0x42800000#32)
          + Ideal.ofBits .f32 0x3727C5AC#32 : EReal) := by
  pointwise [k0_pay26]
  rw [lo_apply, select_ofBool, pair_sum (fun l => k0_pay25 k0_pay4 o (ix2 i l) * k0_pay25 k0_pay4 o (ix2 i l)), mul_64th]
  simp only [centred_apply]

/-- The output block: the head norm, scaled, shifted and gated. -/
theorem gated_apply (o : FVec Ideal S128x128 .f32) (w b : Vec Ideal S1x128 .f32) (g : Vec Ideal S1x128x128 .f32) (i : Fin 128) (p : Fin 2) (e : Fin 64) :
    k0_pay1 (k0_pay25 k0_pay4 o) (k0_pay26 k0_pay4 o) w b g (ix3 0 i (lane p e))
      = (gated (fun e => o (ix2 i (lane p e))) (fun e => w (ix2 0 (lane p e))) (fun e => b (ix2 0 (lane p e)))
          (fun e => g (ix3 0 i (lane p e))) e : EReal) := by
  pointwise [k0_pay1]
  rw [centred_apply, var_apply]
  rfl

end Cert.Proof.Ret

end
-- ==== Proof.RetHost.lean ====
module

public import proofs.«01_k».proof.Proof.RetBlock
public import proofs.«01_k».proof.Proof.Gen.Kernel2Ideal.Value
public import Idealize.ShloMosaic.Lib.Pipeline.ValueKit
public import Idealize.ShloMosaic.Lib.StableHlo.ReadAt

/-!
# What a grid point of the retention's kernel reads
-/

@[expose] public section

set_option maxRecDepth 16384

noncomputable section

namespace Cert.Proof.Ret

open Idealize.ShloMosaic Idealize.ShloMosaic.TcCoe Cert.Kernel2Ideal Cert.Kernel2Ideal.Gen

variable (m : (ℓ : Loc nD τ sig) → Buf (Elt Ideal) ℓ)

/-- Which block each window reads at point `t`: batch row `t / 64`, pair of heads `t / 16 % 4`, chunk `t % 16`. -/
theorem idx : ∀ t : Fin cfg0.N, win0_0.index t = ![0]
    ∧ win0_1.index t = ![t.val / 64, t.val % 16, t.val / 16 % 4]
    ∧ win0_2.index t = ![t.val / 64, t.val % 16, 4 + t.val / 16 % 4]
    ∧ win0_3.index t = ![t.val / 64, t.val % 16, 8 + t.val / 16 % 4]
    ∧ win0_4.index t = ![t.val / 64, t.val % 16, 12 + t.val / 16 % 4]
    ∧ win0_5.index t = ![t.val % 16, 0] ∧ win0_6.index t = ![t.val % 16, 0]
    ∧ win0_7.index t = ![0, t.val / 16 % 4] ∧ win0_8.index t = ![0, t.val / 16 % 4]
    ∧ win0_9.index t = ![t.val / 64, t.val / 16 % 4, 0, 0]
    ∧ win0_10.index t = ![t.val / 64, t.val % 16, t.val / 16 % 4]
    ∧ win0_11.index t = ![t.val / 64, t.val / 16 % 4, 0, 0]
    ∧ k0_off1 (grid0.coords t) = ![2 * (t.val / 16 % 4)] ∧ k0_off2 (grid0.coords t) = ![2 * (t.val / 16 % 4) + 1] :=
  (by decide +kernel : ∀ t : Fin grid0.N, _)

/-- The launch's arguments as functions of their indices. -/
abbrev rows (c : Dev nD) (b : Fin 8) (l j : Fin 2048) : EReal :=
  (m ((c : Thread nD τ).loc main_arg0) : FVec Ideal S8x2048x2048 .f32) (ix3 b l j)
abbrev start (c : Dev nD) (b h : Fin 8) (d e : Fin 64) : EReal :=
  (m ((c : Thread nD τ).loc main_arg1) : FVec Ideal S8x8x64x64 .f32) (ix4 b h d e)
abbrev scale (c : Dev nD) (j : Fin 512) : EReal := (m ((c : Thread nD τ).loc main_arg2) : FVec Ideal S512 .f32) (ix1 j)
abbrev shift (c : Dev nD) (j : Fin 512) : EReal := (m ((c : Thread nD τ).loc main_arg3) : FVec Ideal S512 .f32) (ix1 j)

/-! ## What the host hands the launch -/

section host

variable (c : Dev nD)

/-- The table of cosines repeats a token's 32 cosines four times over the 128 lanes of a pair. -/
theorem V_cos (l : Fin 2048) (p : Fin 2) (e : Fin 64) :
    V m c main_v15 (ix2 l (lane p e)) = (Ideal.cos (angle l ⟨e.val % 32, by omega⟩) : EReal) := by
  have hl : (lane p e).val = p.val * 64 + e.val := rfl
  have hf : ∀ f : Fin 32, f.val = e.val % 32 → (⟨e.val % 32, by omega⟩ : Fin 32) = f := fun f h => Fin.ext h.symm
  unfold V
  after_reads_at
  split_ifs <;> try (rename_i h; exact absurd rfl h)
  · rw [hf ⟨(lane p e).val, by omega⟩ (by dsimp only; omega)]
    after_reads_at
    rfl
  · rw [hf ⟨(lane p e).val - 32, by omega⟩ (by dsimp only; omega)]
    after_reads_at
    rfl
  · rw [hf ⟨(lane p e).val - 32 - 32, by omega⟩ (by dsimp only; omega)]
    after_reads_at
    rfl
  · rw [hf ⟨(lane p e).val - 32 - 32 - 32, by omega⟩ (by dsimp only; omega)]
    after_reads_at
    rfl

/-- The table of sines has them negated in the lower half of each head. -/
theorem V_sin (l : Fin 2048) (p : Fin 2) (e : Fin 64) :
    V m c main_v18 (ix2 l (lane p e))
      = (if e.val < 32 then -Ideal.sin (angle l ⟨e.val % 32, by omega⟩) else Ideal.sin (angle l ⟨e.val % 32, by omega⟩) : EReal) := by
  have hl : (lane p e).val = p.val * 64 + e.val := rfl
  have hf : ∀ f : Fin 32, f.val = e.val % 32 → (⟨e.val % 32, by omega⟩ : Fin 32) = f := fun f h => Fin.ext h.symm
  generalize hR : (if e.val < 32 then -Ideal.sin (angle l ⟨e.val % 32, by omega⟩) else Ideal.sin (angle l ⟨e.val % 32, by omega⟩) : EReal) = R
  unfold V
  after_reads_at
  split_ifs <;> try (rename_i h; exact absurd rfl h)
  · rw [if_pos (by omega), hf ⟨(lane p e).val, by omega⟩ (by dsimp only; omega)] at hR
    rw [← hR]
    after_reads_at
    rfl
  · rw [if_neg (by omega), hf ⟨(lane p e).val - 32, by omega⟩ (by dsimp only; omega)] at hR
    rw [← hR]
    after_reads_at
    rfl
  · rw [if_pos (by omega), hf ⟨(lane p e).val - 32 - 32, by omega⟩ (by dsimp only; omega)] at hR
    rw [← hR]
    after_reads_at
    rfl
  · rw [if_neg (by omega), hf ⟨(lane p e).val - 32 - 32 - 32, by omega⟩ (by dsimp only; omega)] at hR
    rw [← hR]
    after_reads_at
    rfl

/-- The heads' log-decays. -/
theorem V_lg (h : Fin 8) : V m c main_v26 (ix1 h) = (logDecay h : EReal) := by
  unfold V
  after_reads_at
  rfl

/-- The first states as one array a pair. -/
theorem V_s0 (b : Fin 8) (r : Fin 4) (p q : Fin 2) (d e : Fin 64) :
    V m c main_v37 (ix4 b r (lane p d) (lane q e)) = (if p = q then start m c b (head r p) d e else 0 : EReal) := by
  generalize hR : (if p = q then (m ((c : Thread nD τ).loc main_arg1) : FVec Ideal S8x8x64x64 .f32) (ix4 b (head r p) d e) else 0 : EReal) = R
  have hp : (lane p d).val = p.val * 64 + d.val := rfl
  have hq : (lane q e).val = q.val * 64 + e.val := rfl
  have hh : (head r p).val = 2 * r.val + p.val := rfl
  have hpq : p = q ↔ p.val = q.val := Fin.ext_iff
  unfold V
  after_reads_at
  have h0 : p ≠ q → R = 0 := fun h => by rw [← hR, if_neg h]
  have h1 : p = q → R = (m ((c : Thread nD τ).loc main_arg1) : FVec Ideal S8x8x64x64 .f32) (ix4 b (head r p) d e) := fun h => by rw [← hR, if_pos h]
  clear hR
  split_ifs
  all_goals first | (exfalso; omega) | skip
  all_goals after_reads_at
  all_goals
    first
      | exact (h0 (by omega)).symm
      | rw [h1 (by omega)]
        have hj : (⟨r.val * 2, by omega⟩ : Fin 8) = head r p := Fin.ext (by rw [hh]; dsimp only; omega)
        have hk : (⟨(lane p d).val, by omega⟩ : Fin 64) = d := Fin.ext (by dsimp only; omega)
        have hl : (⟨(lane q e).val, by omega⟩ : Fin 64) = e := Fin.ext (by dsimp only; omega)
        rw [hj, hk, hl]
      | rw [h1 (by omega)]
        have hj : (⟨r.val * 2 + 1, by omega⟩ : Fin 8) = head r p := Fin.ext (by rw [hh]; dsimp only; omega)
        have hk : (⟨(lane p d).val - 64, by omega⟩ : Fin 64) = d := Fin.ext (by dsimp only; omega)
        have hl : (⟨(lane q e).val - 64, by omega⟩ : Fin 64) = e := Fin.ext (by dsimp only; omega)
        rw [hj, hk, hl]

/-- The norm's scale and shift as rows. -/
theorem V_w (j : Fin 512) : V m c main_v38 (ix2 0 j) = scale m c j := by
  unfold V
  after_reads_at

theorem V_b (j : Fin 512) : V m c main_v39 (ix2 0 j) = shift m c j := by
  unfold V
  after_reads_at

end host

/-! ## What a point reads: batch row `b`, pair `r`, chunk `n` -/

/-- Point `t` is the one of batch row `b`, pair `r` and chunk `n`. -/
structure At (t : Fin cfg0.N) (b : Fin 8) (r : Fin 4) (n : ℕ) : Prop where
  row : t.val / 64 = b.val
  pair : t.val / 16 % 4 = r.val
  chunk : t.val % 16 = n

section point

variable (c : Dev nD) {t : Fin cfg0.N} {b : Fin 8} {r : Fin 4} {n : ℕ} (ht : At t b r n)
include ht

theorem tok_val (i : Fin 128) : (tok n i).val = t.val % 16 * 128 + i.val := by
  have := ht.chunk
  show (n * 128 + i.val) % 2048 = _
  omega

theorem blk_q (i : Fin 128) (p : Fin 2) (e : Fin 64) :
    iblk m c 1 t (ix3 0 i (lane p e)) = rows m c b (tok n i) (col 0 (head r p) e) := by
  have h1 := tok_val ht i
  have h2 := ht.row
  have h3 := ht.pair
  have h4 : (col 0 (head r p) e).val = 0 * 512 + (2 * r.val + p.val) * 64 + e.val := rfl
  have h5 : (lane p e).val = p.val * 64 + e.val := rfl
  blk_ext [iblk, V, idx t]

theorem blk_k (i : Fin 128) (p : Fin 2) (e : Fin 64) :
    iblk m c 2 t (ix3 0 i (lane p e)) = rows m c b (tok n i) (col 1 (head r p) e) := by
  have h1 := tok_val ht i
  have h2 := ht.row
  have h3 := ht.pair
  have h4 : (col 1 (head r p) e).val = 1 * 512 + (2 * r.val + p.val) * 64 + e.val := rfl
  have h5 : (lane p e).val = p.val * 64 + e.val := rfl
  blk_ext [iblk, V, idx t]

theorem blk_v (i : Fin 128) (p : Fin 2) (e : Fin 64) :
    iblk m c 3 t (ix3 0 i (lane p e)) = rows m c b (tok n i) (col 2 (head r p) e) := by
  have h1 := tok_val ht i
  have h2 := ht.row
  have h3 := ht.pair
  have h4 : (col 2 (head r p) e).val = 2 * 512 + (2 * r.val + p.val) * 64 + e.val := rfl
  have h5 : (lane p e).val = p.val * 64 + e.val := rfl
  blk_ext [iblk, V, idx t]

theorem blk_g (i : Fin 128) (p : Fin 2) (e : Fin 64) :
    iblk m c 4 t (ix3 0 i (lane p e)) = rows m c b (tok n i) (col 3 (head r p) e) := by
  have h1 := tok_val ht i
  have h2 := ht.row
  have h3 := ht.pair
  have h4 : (col 3 (head r p) e).val = 3 * 512 + (2 * r.val + p.val) * 64 + e.val := rfl
  have h5 : (lane p e).val = p.val * 64 + e.val := rfl
  blk_ext [iblk, V, idx t]

theorem blk_cos (i j : Fin 128) : iblk m c 5 t (ix2 i j) = V m c main_v15 (ix2 (tok n i) j) := by
  have h1 := tok_val ht i
  blk_ext [iblk, idx t]

theorem blk_sin (i j : Fin 128) : iblk m c 6 t (ix2 i j) = V m c main_v18 (ix2 (tok n i) j) := by
  have h1 := tok_val ht i
  blk_ext [iblk, idx t]

theorem blk_w (p : Fin 2) (e : Fin 64) : iblk m c 7 t (ix2 0 (lane p e)) = scale m c (unit (head r p) e) := by
  rw [← V_w m]
  have h3 := ht.pair
  have h4 : (unit (head r p) e).val = (2 * r.val + p.val) * 64 + e.val := rfl
  have h5 : (lane p e).val = p.val * 64 + e.val := rfl
  blk_ext [iblk, idx t]

theorem blk_b (p : Fin 2) (e : Fin 64) : iblk m c 8 t (ix2 0 (lane p e)) = shift m c (unit (head r p) e) := by
  rw [← V_b m]
  have h3 := ht.pair
  have h4 : (unit (head r p) e).val = (2 * r.val + p.val) * 64 + e.val := rfl
  have h5 : (lane p e).val = p.val * 64 + e.val := rfl
  blk_ext [iblk, idx t]

theorem blk_s0 (i j : Fin 128) : iblk m c 9 t (ix4 0 0 i j) = V m c main_v37 (ix4 b r i j) := by
  have h2 := ht.row
  have h3 := ht.pair
  blk_ext [iblk, idx t]

/-- The log-decays of the pair's two heads, read off the table by the pair's number. -/
theorem lg_first (h : ∀ a, k0_off1 (grid0.coords t) a + (![1] : Fin 1 → ℕ) a ≤ S8.size a)
    (h' : 0 < (Rect.unit (s := S8) (k0_off1 (grid0.coords t)) ![1] h).shape.numel) :
    View.ld (iblk m c 0 t) (Rect.unit (s := S8) (k0_off1 (grid0.coords t)) ![1] h) (Shape.Idx.first h') = (logDecay (head r 0) : EReal) := by
  rw [← V_lg m c]
  have h3 := ht.pair
  obtain ⟨hi, _, _, _, _, _, _, _, _, _, _, _, ho1, ho2⟩ := idx t
  unfold View.ld
  refine Eq.trans (b := iblk m c 0 t (ix1 (head r 0))) (congrArg _ (funext fun a => Fin.ext ?_)) ?_
  · match a with
    | ⟨0, _⟩ =>
      show k0_off1 (grid0.coords t) 0 + 1 * 0 = 2 * r.val + 0
      rw [ho1]
      show 2 * (t.val / 16 % 4) + 1 * 0 = 2 * r.val + 0
      omega
  · blk_ext [iblk, hi]

theorem lg_second (h : ∀ a, k0_off2 (grid0.coords t) a + (![1] : Fin 1 → ℕ) a ≤ S8.size a)
    (h' : 0 < (Rect.unit (s := S8) (k0_off2 (grid0.coords t)) ![1] h).shape.numel) :
    View.ld (iblk m c 0 t) (Rect.unit (s := S8) (k0_off2 (grid0.coords t)) ![1] h) (Shape.Idx.first h') = (logDecay (head r 1) : EReal) := by
  rw [← V_lg m c]
  have h3 := ht.pair
  obtain ⟨hi, _, _, _, _, _, _, _, _, _, _, _, ho1, ho2⟩ := idx t
  unfold View.ld
  refine Eq.trans (b := iblk m c 0 t (ix1 (head r 1))) (congrArg _ (funext fun a => Fin.ext ?_)) ?_
  · match a with
    | ⟨0, _⟩ =>
      show k0_off2 (grid0.coords t) 0 + 1 * 0 = 2 * r.val + 1
      rw [ho2]
      show 2 * (t.val / 16 % 4) + 1 + 1 * 0 = 2 * r.val + 1
      omega
  · blk_ext [iblk, hi]

end point

end Cert.Proof.Ret

end
-- ==== Proof.RetFold.lean ====
module

public import proofs.«01_k».proof.Proof.RetHost

/-!
# What the retention's kernel leaves in its results
-/

@[expose] public section

set_option maxRecDepth 16384

noncomputable section

namespace Cert.Proof.Ret

open Idealize.ShloMosaic Idealize.ShloMosaic.TcCoe Cert.Kernel2Ideal Cert.Kernel2Ideal.Gen

variable (m : (ℓ : Loc nD τ sig) → Buf (Elt Ideal) ℓ)

/-! ## Plain copies -/

theorem pay2_apply (v : FVec Ideal S128x128 .f32) (r l : Fin 128) : k0_pay2 v (ix4 0 0 r l) = (v (ix2 r l) : EReal) := by
  pointwise [k0_pay2]

theorem pay3_apply (x : Vec Ideal S1x1x128x128 .f32) (r l : Fin 128) : k0_pay3 x (ix2 r l) = (x (ix4 0 0 r l) : EReal) := by
  pointwise [k0_pay3]

theorem pay7_apply (x : Vec Ideal S128x128 .f32) (r l : Fin 128) : k0_pay7 x (ix2 r l) = (x (ix2 r l) : EReal) := by
  pointwise [k0_pay7]

theorem pay8_apply (x : Vec Ideal S128x128 .f32) (r l : Fin 128) : k0_pay8 x (ix2 r l) = (x (ix2 r l) : EReal) := by
  pointwise [k0_pay8]

/-- A pair's choice of the two log-decays. -/
theorem two_lg (r : Fin 4) (p : Fin 2) : two (logDecay (head r 0)) (logDecay (head r 1)) p = logDecay (head r p) := by
  match p with
  | 0 => rfl
  | 1 => rfl

section point

variable (c : Dev nD) {t : Fin cfg0.N} {b : Fin 8} {r : Fin 4} {n : ℕ} (ht : At t b r n)
include ht

/-! ## The point's query, key and value -/

theorem cos_point (i : Fin 128) (p : Fin 2) (e : Fin 64) :
    k0_pay7 (iblk m c 5 t) (ix2 i (lane p e)) = (Ideal.cos (angle (tok n i) ⟨e.val % 32, by omega⟩) : EReal) := by
  rw [pay7_apply, blk_cos m c ht, V_cos]

theorem sin_point (i : Fin 128) (p : Fin 2) (e : Fin 64) :
    k0_pay8 (iblk m c 6 t) (ix2 i (lane p e))
      = (if e.val < 32 then -Ideal.sin (angle (tok n i) ⟨e.val % 32, by omega⟩) else Ideal.sin (angle (tok n i) ⟨e.val % 32, by omega⟩) : EReal) := by
  rw [pay8_apply, blk_sin m c ht, V_sin]

theorem query_point (i : Fin 128) (p : Fin 2) (e : Fin 64) :
    k0_pay9 k0_pay5 (k0_pay7 (iblk m c 5 t)) (k0_pay8 (iblk m c 6 t)) (iblk m c 1 t) (ix2 i (lane p e))
      = (query (rows m c) b (head r p) (tok n i) e : EReal) := by
  refine (rot_apply _ _ _ (fun i f => Ideal.cos (angle (tok n i) f)) (fun i f => Ideal.sin (angle (tok n i) f))
    (cos_point m c ht) (sin_point m c ht) i p e).trans ?_
  simp only [blk_q m c ht]
  rfl

theorem key_point (i : Fin 128) (p : Fin 2) (e : Fin 64) :
    k0_pay10 k0_pay5 (k0_pay7 (iblk m c 5 t)) (k0_pay8 (iblk m c 6 t)) (iblk m c 2 t) (ix2 i (lane p e))
      = (key (rows m c) b (head r p) (tok n i) e : EReal) := by
  rw [key_apply, rot_apply _ _ _ (fun i f => Ideal.cos (angle (tok n i) f)) (fun i f => Ideal.sin (angle (tok n i) f))
    (cos_point m c ht) (sin_point m c ht) i p e]
  simp only [blk_k m c ht]
  rfl

theorem value_point (i : Fin 128) (p : Fin 2) (e : Fin 64) :
    k0_pay17 (iblk m c 3 t) (ix2 i (lane p e)) = (value (rows m c) b (head r p) (tok n i) e : EReal) := by
  rw [val_apply, blk_v m c ht]
  rfl

/-! ## The point's results, from the states before its chunk -/

section results

variable {x y : EReal} (hx : x = logDecay (head r 0)) (hy : y = logDecay (head r 1)) {st : Vec Ideal S128x128 .f32}
  (hst : ∀ p q d e, st (ix2 (lane p d) (lane q e)) = (pair (rows m c) (start m c) b r n p q d e : EReal))
include hx hy hst

/-- The pair's states after the chunk. -/
theorem carry_point (p q : Fin 2) (d e : Fin 64) :
    k0_pay23 (k0_pay10 k0_pay5 (k0_pay7 (iblk m c 5 t)) (k0_pay8 (iblk m c 6 t)) (iblk m c 2 t)) (k0_pay13 (k0_pay6 x y))
        (k0_pay17 (iblk m c 3 t)) st k0_pay21 (k0_pay22 x y) (ix2 (lane p d) (lane q e))
      = (pair (rows m c) (start m c) b r (n + 1) p q d e : EReal) := by
  subst hx hy
  by_cases h : p = q
  · subst h
    rw [carry_apply, two_lg]
    simp only [key_point m c ht, value_point m c ht, hst]
    unfold pair
    simp only [if_true]
    rfl
  · rw [carry_off _ _ _ _ _ _ _ _ _ h (by rw [hst]; exact if_neg h)]
    exact (if_neg h).symm

/-- What the chunk's tokens read. -/
theorem read_point (i : Fin 128) (p : Fin 2) (e : Fin 64) :
    k0_pay20 k0_pay4 y (k0_pay9 k0_pay5 (k0_pay7 (iblk m c 5 t)) (k0_pay8 (iblk m c 6 t)) (iblk m c 1 t)) (k0_pay12 (k0_pay6 x y))
        (k0_pay14 (F := Ideal)) k0_pay15 (k0_pay16 k0_pay5 (k0_pay7 (iblk m c 5 t)) (k0_pay8 (iblk m c 6 t)) (iblk m c 2 t))
        (k0_pay17 (iblk m c 3 t)) (k0_pay18 x) (k0_pay19 (F := Ideal)) st (ix2 i (lane p e))
      = (reads (rows m c) (start m c) b (head r p) n i e : EReal) := by
  subst hx hy
  rw [read_apply _ _ _ _ _ _ (fun p q d e h => by rw [hst]; exact if_neg h), two_lg]
  simp only [keyb_apply, query_point m c ht, key_point m c ht, value_point m c ht, hst]
  unfold pair
  simp only [if_true]
  rfl

/-- The chunk's output. -/
theorem out_point (i : Fin 128) (p : Fin 2) (e : Fin 64) :
    k0_pay1 (k0_pay25 k0_pay4 (k0_pay20 k0_pay4 y (k0_pay9 k0_pay5 (k0_pay7 (iblk m c 5 t)) (k0_pay8 (iblk m c 6 t)) (iblk m c 1 t)) (k0_pay12 (k0_pay6 x y))
        (k0_pay14 (F := Ideal)) k0_pay15 (k0_pay16 k0_pay5 (k0_pay7 (iblk m c 5 t)) (k0_pay8 (iblk m c 6 t)) (iblk m c 2 t))
        (k0_pay17 (iblk m c 3 t)) (k0_pay18 x) (k0_pay19 (F := Ideal)) st))
      (k0_pay26 k0_pay4 (k0_pay20 k0_pay4 y (k0_pay9 k0_pay5 (k0_pay7 (iblk m c 5 t)) (k0_pay8 (iblk m c 6 t)) (iblk m c 1 t)) (k0_pay12 (k0_pay6 x y))
        (k0_pay14 (F := Ideal)) k0_pay15 (k0_pay16 k0_pay5 (k0_pay7 (iblk m c 5 t)) (k0_pay8 (iblk m c 6 t)) (iblk m c 2 t))
        (k0_pay17 (iblk m c 3 t)) (k0_pay18 x) (k0_pay19 (F := Ideal)) st))
      (iblk m c 7 t) (iblk m c 8 t) (iblk m c 4 t) (ix3 0 i (lane p e))
      = (result (rows m c) (start m c) (scale m c) (shift m c) b (head r p) n i e : EReal) := by
  rw [gated_apply]
  simp only [read_point m c ht hx hy hst, blk_w m c ht, blk_b m c ht, blk_g m c ht]
  rfl

end results

/-- The first states, before chunk 0. -/
theorem start_point (hn : n = 0) (p q : Fin 2) (d e : Fin 64) :
    k0_pay3 (iblk m c 9 t) (ix2 (lane p d) (lane q e)) = (pair (rows m c) (start m c) b r n p q d e : EReal) := by
  rw [pay3_apply, blk_s0 m c ht, V_s0, hn]
  rfl

end point

/-! ## The chunks in turn -/

section fold

variable (c : Dev nD) (b : Fin 8) (r : Fin 4)

/-- After the point of chunk `n` the scratch holds the pair's states after that chunk. -/
theorem scratch : ∀ (n : ℕ) (t : Fin cfg0.N), At t b r n → ∀ p q d e,
    (outsAt0 m c t.val t.isLt).2.2 (ix2 (lane p d) (lane q e)) = (pair (rows m c) (start m c) b r (n + 1) p q d e : EReal)
  | 0, t, ht, p, q, d, e => by
    have h := ht.chunk
    rw [outsAt0_A m c t h (by omega)]
    frame_out
    rw [stored_apply]
    exact carry_point m c ht (lg_first m c ht _ _) (lg_second m c ht _ _) (start_point m c ht rfl) p q d e
  | n + 1, t, ht, p, q, d, e => by
    have h := ht.chunk
    have h2 := ht.row
    have h3 := ht.pair
    have hp := scratch n ⟨t.val - 1, by omega⟩ ⟨by dsimp only; omega, by dsimp only; omega, by dsimp only; omega⟩
    by_cases h1 : t.val % 16 = 15
    · rw [outsAt0_C m c t (by omega) h1]
      frame_out
      rw [stored_apply]
      exact carry_point m c ht (lg_first m c ht _ _) (lg_second m c ht _ _)
        (fun p q d e => (congrFun (Memref.IsWhole.read_unread _ _) _).trans (hp p q d e)) p q d e
    · rw [outsAt0_B m c t (by omega) h1]
      frame_out
      rw [stored_apply]
      exact carry_point m c ht (lg_first m c ht _ _) (lg_second m c ht _ _)
        (fun p q d e => (congrFun (Memref.IsWhole.read_unread _ _) _).trans (hp p q d e)) p q d e

/-- The point of chunk `n` writes the chunk's output. -/
theorem written : ∀ (n : ℕ) (t : Fin cfg0.N), At t b r n → ∀ i p e,
    (outsAt0 m c t.val t.isLt).1 (ix3 0 i (lane p e)) = (result (rows m c) (start m c) (scale m c) (shift m c) b (head r p) n i e : EReal)
  | 0, t, ht, i, p, e => by
    have h := ht.chunk
    rw [outsAt0_A m c t h (by omega)]
    frame_out
    exact out_point m c ht (lg_first m c ht _ _) (lg_second m c ht _ _) (start_point m c ht rfl) i p e
  | n + 1, t, ht, i, p, e => by
    have h := ht.chunk
    have h2 := ht.row
    have h3 := ht.pair
    have hp := scratch m c b r n ⟨t.val - 1, by omega⟩ ⟨by dsimp only; omega, by dsimp only; omega, by dsimp only; omega⟩
    by_cases h1 : t.val % 16 = 15
    · rw [outsAt0_C m c t (by omega) h1]
      frame_out
      exact out_point m c ht (lg_first m c ht _ _) (lg_second m c ht _ _)
        (fun p q d e => (congrFun (Memref.IsWhole.read_unread _ _) _).trans (hp p q d e)) i p e
    · rw [outsAt0_B m c t (by omega) h1]
      frame_out
      exact out_point m c ht (lg_first m c ht _ _) (lg_second m c ht _ _)
        (fun p q d e => (congrFun (Memref.IsWhole.read_unread _ _) _).trans (hp p q d e)) i p e

/-- The point of the last chunk also writes the states after it. -/
theorem kept (t : Fin cfg0.N) (ht : At t b r 15) (p q : Fin 2) (d e : Fin 64) :
    (outsAt0 m c t.val t.isLt).2.1 (ix4 0 0 (lane p d) (lane q e)) = (pair (rows m c) (start m c) b r 16 p q d e : EReal) := by
  have h := ht.chunk
  have h2 := ht.row
  have h3 := ht.pair
  have hp := scratch m c b r 14 ⟨t.val - 1, by omega⟩ ⟨by dsimp only; omega, by dsimp only; omega, by dsimp only; omega⟩
  rw [outsAt0_C m c t (by omega) h]
  frame_out
  rw [pay2_apply]
  exact carry_point m c ht (lg_first m c ht _ _) (lg_second m c ht _ _)
    (fun p q d e => (congrFun (Memref.IsWhole.read_unread _ _) _).trans (hp p q d e)) p q d e

end fold

end Cert.Proof.Ret

end
-- ==== Proof.RetOut.lean ====
module

public import proofs.«01_k».proof.Proof.RetFold

/-!
# The arrays the retention's kernel ends with
-/

@[expose] public section

set_option maxRecDepth 16384

noncomputable section

namespace Cert.Proof.Ret

open Idealize.ShloMosaic Idealize.ShloMosaic.TcCoe Cert.Kernel2Ideal Cert.Kernel2Ideal.Gen

variable (m : (ℓ : Loc nD τ sig) → Buf (Elt Ideal) ℓ) (c : Dev nD)

/-- The outputs: token `l` is token `l % 128` of chunk `l / 128`, lane `j` is lane `j % 64` of head `j / 64`. -/
def outputs : FVec Ideal S8x2048x512 .f32 := fun y =>
  result (rows m c) (start m c) (scale m c) (shift m c) (y 0) ⟨(y 2).val / 64, Nat.div_lt_of_lt_mul (y 2).isLt⟩ ((y 1).val / 128)
    ⟨(y 1).val % 128, Nat.mod_lt _ (by decide)⟩ ⟨(y 2).val % 64, Nat.mod_lt _ (by decide)⟩

/-- The last states, a pair of heads an array. -/
def lasts : FVec Ideal S8x4x128x128 .f32 := fun y =>
  pair (rows m c) (start m c) (y 0) (y 1) 16 ⟨(y 2).val / 64, Nat.div_lt_of_lt_mul (y 2).isLt⟩ ⟨(y 3).val / 64, Nat.div_lt_of_lt_mul (y 3).isLt⟩
    ⟨(y 2).val % 64, Nat.mod_lt _ (by decide)⟩ ⟨(y 3).val % 64, Nat.mod_lt _ (by decide)⟩

/-- The first result at token `i` of chunk `n` and lane `e` of head `h`. -/
theorem outputs_apply (b h : Fin 8) (n : ℕ) (hn : n < 16) (i : Fin 128) (e : Fin 64) :
    outputs m c (ix3 b (tok n i) (unit h e)) = result (rows m c) (start m c) (scale m c) (shift m c) b h n i e := by
  have ht : (tok n i).val = n * 128 + i.val := Nat.mod_eq_of_lt (by omega)
  have hu : (unit h e).val = h.val * 64 + e.val := rfl
  have h1 : (⟨(unit h e).val / 64, by omega⟩ : Fin 8) = h := Fin.ext (by dsimp only; omega)
  have h2 : (⟨(unit h e).val % 64, by omega⟩ : Fin 64) = e := Fin.ext (by dsimp only; omega)
  have h3 : (tok n i).val / 128 = n := by omega
  have h4 : (⟨(tok n i).val % 128, by omega⟩ : Fin 128) = i := Fin.ext (by dsimp only; omega)
  show result (rows m c) (start m c) (scale m c) (shift m c) b ⟨(unit h e).val / 64, _⟩ ((tok n i).val / 128) ⟨(tok n i).val % 128, _⟩ ⟨(unit h e).val % 64, _⟩ = _
  rw [h1, h2, h3, h4]

/-- The second result at row `d` of head half `p` and lane `e` of head half `q`. -/
theorem lasts_apply (b : Fin 8) (r : Fin 4) (p q : Fin 2) (d e : Fin 64) :
    lasts m c (ix4 b r (lane p d) (lane q e)) = pair (rows m c) (start m c) b r 16 p q d e := by
  have hu : ∀ (p : Fin 2) (d : Fin 64), (lane p d).val = p.val * 64 + d.val := fun _ _ => rfl
  have h1 : ∀ (p : Fin 2) (d : Fin 64), (⟨(lane p d).val / 64, by omega⟩ : Fin 2) = p := fun p d => Fin.ext (by dsimp only; rw [hu]; omega)
  have h2 : ∀ (p : Fin 2) (d : Fin 64), (⟨(lane p d).val % 64, by omega⟩ : Fin 64) = d := fun p d => Fin.ext (by dsimp only; rw [hu]; omega)
  show pair (rows m c) (start m c) b r 16 ⟨(lane p d).val / 64, _⟩ ⟨(lane q e).val / 64, _⟩ ⟨(lane p d).val % 64, _⟩ ⟨(lane q e).val % 64, _⟩ = _
  rw [h1, h1, h2, h2]

/-- An index of a window of the first result names a row and a lane. -/
theorem block3 (y : S1x128x128.Idx) : ∃ i l : Fin 128, y = ix3 0 i l := ⟨y 1, y 2, funext fun a => by
  match a with
  | ⟨0, _⟩ => exact Subsingleton.elim (α := Fin 1) _ _
  | ⟨1, _⟩ => rfl
  | ⟨2, _⟩ => rfl⟩

/-- An index of a window of the second result names a row and a lane. -/
theorem block4 (y : S1x1x128x128.Idx) : ∃ i l : Fin 128, y = ix4 0 0 i l := ⟨y 2, y 3, funext fun a => by
  match a with
  | ⟨0, _⟩ => exact Subsingleton.elim (α := Fin 1) _ _
  | ⟨1, _⟩ => exact Subsingleton.elim (α := Fin 1) _ _
  | ⟨2, _⟩ => rfl
  | ⟨3, _⟩ => rfl⟩

/-- The kernel's first result. -/
theorem outputs_eq : (dats m 0 c).arrAt 10 cfg0.N = outputs m c := by
  refine (dats m 0 c).arrAt_eq_of_covers 10 _ (by decide +kernel) fun t hf y => ?_
  blk_simp [idx t]
  rw [after0_10]
  obtain ⟨i, l, hy⟩ := block3 y
  obtain ⟨p, e, rfl⟩ := lane_surj l
  subst hy
  have hN : cfg0.grid.N = 512 := by decide
  have ht := t.isLt
  refine (written m c ⟨t.val / 64, by omega⟩ ⟨t.val / 16 % 4, by omega⟩ (t.val % 16) t ⟨rfl, rfl, rfl⟩ i p e).trans ?_
  rw [← outputs_apply m c _ _ _ (by omega)]
  refine congrArg (outputs m c) ?_
  have h1 := tok_val (t := t) (b := ⟨t.val / 64, by omega⟩) (r := ⟨t.val / 16 % 4, by omega⟩) (n := t.val % 16) ⟨rfl, rfl, rfl⟩ i
  have h2 : ∀ r, (unit (head r p) e).val = (2 * r.val + p.val) * 64 + e.val := fun _ => rfl
  have h3 : (lane p e).val = p.val * 64 + e.val := rfl
  funext a
  refine Fin.ext ?_
  match a with
  | ⟨0, _⟩ => blk_simp [idx t]; rfl
  | ⟨1, _⟩ => blk_simp [idx t]; exact h1
  | ⟨2, _⟩ => blk_simp [idx t]; rw [h2, h3]; dsimp only; omega

/-- The kernel's second result. -/
theorem lasts_eq : (dats m 0 c).arrAt 11 cfg0.N = lasts m c := by
  refine (dats m 0 c).arrAt_eq_of_covers 11 _ (by decide +kernel) fun t hf y => ?_
  have h15 : t.val % 16 = 15 := (by decide +kernel : ∀ t : Fin cfg0.N, (cfg0.win 11).flush t = true → t.val % 16 = 15) t hf
  blk_simp [idx t]
  rw [after0_11]
  obtain ⟨i, l, hy⟩ := block4 y
  obtain ⟨p, d, rfl⟩ := lane_surj i
  obtain ⟨q, e, rfl⟩ := lane_surj l
  subst hy
  have hN : cfg0.grid.N = 512 := by decide
  have ht := t.isLt
  refine (kept m c ⟨t.val / 64, by omega⟩ ⟨t.val / 16 % 4, by omega⟩ t ⟨rfl, rfl, h15⟩ p q d e).trans ?_
  rw [← lasts_apply]
  refine congrArg (lasts m c) ?_
  funext a
  refine Fin.ext ?_
  match a with
  | ⟨0, _⟩ => blk_simp [idx t]; rfl
  | ⟨1, _⟩ => blk_simp [idx t]; rfl
  | ⟨2, _⟩ => blk_simp [idx t]
  | ⟨3, _⟩ => blk_simp [idx t]

end Cert.Proof.Ret

end
-- ==== Proof.RetTables.lean ====
module

public import proofs.«01_k».proof.Proof.RetSpec
public import proofs.«01_k».proof.Proof.Gen.Reference2Ideal.Step
public import Idealize.ShloMosaic.Lib.Pointwise

/-!
# The tables and rotated rows of the retention's reference
-/

@[expose] public section

set_option maxRecDepth 16384

noncomputable section

namespace Cert.Proof.RetRef

open Idealize.ShloMosaic Cert.Reference2Ideal Cert.Reference2Ideal.Gen Cert.Reference2Ideal.Step
open Cert.Proof.Ret

/-- The reference's log-decays. -/
theorem lg_apply (h : Fin 8) : K_main_v74 (F := Ideal) (ix1 h) = (logDecay h : EReal) := by
  pointwise [K_main_v74, K_main_v73, K_main_v72, K_main_v71, K_main_v70, K_main_v69, K_main_v68, K_main_v67, K_main_cst_4, K_main_cst_5]
  rfl

/-- A token's number in its chunk. -/
theorem ti_apply (i : Fin 128) : K_main_v75 (F := Ideal) (ix1 i) = (((i.val : ℝ) : EReal) : EReal) := by
  pointwise [K_main_v75]
  have h : ∀ i : Fin 128, (BitVec.ofNat 32 i.val).toInt = (i.val : ℤ) := by decide
  show (((BitVec.ofNat 32 i.val).toInt : ℝ) : EReal) = _
  rw [h]; norm_cast

/-- Its tables are the formulas: the decay of the carried state, -/
theorem qdec_apply (h : Fin 8) (i : Fin 128) : K_main_v99 (F := Ideal) (ix2 h i) = (qdec (logDecay h) i : EReal) := by
  pointwise [K_main_v99, K_main_v98, K_main_v97, K_main_v96, K_main_v95, K_main_v94, K_main_v93, K_main_v92, K_main_cst_9]
  rw [lg_apply, ti_apply]
  rfl

/-- the decay to the chunk's end, -/
theorem kdec_apply (h : Fin 8) (i : Fin 128) : K_main_v107 (F := Ideal) (ix2 h i) = (kdec (logDecay h) i : EReal) := by
  pointwise [K_main_v107, K_main_v106, K_main_v105, K_main_v104, K_main_v103, K_main_v102, K_main_v101, K_main_v100, K_main_cst_10]
  rw [lg_apply, ti_apply]
  rfl

/-- the decay over a chunk, -/
theorem cdec_apply (h : Fin 8) : K_main_v110 (F := Ideal) (ix1 h) = (cdec (logDecay h) : EReal) := by
  pointwise [K_main_v110, K_main_v109, K_main_v108, K_main_cst_11]
  rw [lg_apply]
  rfl

/-- the decay inside a chunk. -/
theorem mask_apply (h : Fin 8) (i j : Fin 128) : K_main_v91 (F := Ideal) (ix3 h i j) = (mask (logDecay h) i j : EReal) := by
  pointwise [K_main_v91, K_main_call0_v2, K_main_call0_v1, K_main_call0_v0, K_main_cst_8, K_main_v90, K_main_v89, K_main_v88, K_main_v87, K_main_v86, K_main_v85,
    K_main_v84, K_main_cst_7, K_main_v83, K_main_v82, K_main_v81, K_main_cst_6, K_main_v80, K_main_v79, K_main_v78, K_main_v77, K_main_v76]
  rw [lg_apply, ti_apply, ti_apply]
  have hle : (0 : EReal) ≤ ((i.val : ℝ) : EReal) - ((j.val : ℝ) : EReal) ↔ j.val ≤ i.val := by
    rw [← EReal.coe_sub, ← EReal.coe_zero, EReal.coe_le_coe_iff, sub_nonneg, Nat.cast_le]
  unfold mask
  by_cases h : j.val ≤ i.val
  · rw [if_pos (hle.mpr h), if_pos h, max_eq_left (hle.mpr h), Nat.cast_sub h, EReal.coe_sub]
  · rw [if_neg (fun k => h (hle.mp k)), if_neg h]
    show (Ideal.ofBits .f32 0x00000000#32 : EReal) = 0
    simp [Ideal.ofBits, Ideal.ieee]

variable (a0 : FVec Ideal S8x2048x2048 .f32)

/-- The rotary tables, for the queries -/
theorem cos_apply (l : Fin 2048) (f : Fin 32) : K_main_v17 (F := Ideal) (ix2 l f) = (Ideal.cos (angle l f) : EReal) := by
  pointwise [K_main_v17, K_main_v16, K_main_v15, K_main_v14, K_main_v13, K_main_v12, K_main_v11, K_main_v10, K_main_v9, K_main_v8, K_main_v7, K_main_v6, K_main_v5, K_main_cst, K_main_cst_0, K_main_v0]
  rfl
theorem sin_apply (l : Fin 2048) (f : Fin 32) : K_main_v19 (F := Ideal) (ix2 l f) = (Ideal.sin (angle l f) : EReal) := by
  pointwise [K_main_v19, K_main_v16, K_main_v15, K_main_v14, K_main_v13, K_main_v12, K_main_v11, K_main_v10, K_main_v9, K_main_v8, K_main_v7, K_main_v6, K_main_v5, K_main_cst, K_main_cst_0, K_main_v0]
  rfl

/-- Every rotated query is the formula's, -/
theorem query_row (b : Fin 8) (l : Fin 2048) (h : Fin 8) (e : Fin 64) :
    A_main_v33 (F := Ideal) a0 (ix4 b l h e) = (query (fun b l j => a0 (ix3 b l j)) b h l e : EReal) := by
  pointwise [A_main_v33, A_main_v32, A_main_v31, A_main_v29, A_main_v27, A_main_v26, A_main_v24, A_main_v22, A_main_v21, A_main_v4, A_main_v1,
    K_main_v18, K_main_v20, K_main_v23, K_main_v25, K_main_v28, K_main_v30]
  simp only [cos_apply, sin_apply]
  unfold query rot
  have h0 : ∀ e : Fin 64, (col 0 h e).val = 0 * 512 + h.val * 64 + e.val := fun _ => rfl
  by_cases hl : e.val < 32
  · rw [dif_pos hl, dif_pos hl]
    have e1 : (⟨h.val * 64 + e.val, by omega⟩ : Fin 2048) = col 0 h e := Fin.ext (by rw [h0]; dsimp only; omega)
    have e2 : (⟨h.val * 64 + (32 + e.val), by omega⟩ : Fin 2048) = col 0 h ⟨e.val + 32, by omega⟩ := Fin.ext (by rw [h0]; dsimp only; omega)
    rw [e1, e2]
  · rw [dif_neg hl, dif_neg hl]
    have e1 : (⟨h.val * 64 + (e.val - 32), by omega⟩ : Fin 2048) = col 0 h ⟨e.val - 32, by omega⟩ := Fin.ext (by rw [h0]; dsimp only; omega)
    have e2 : (⟨h.val * 64 + (32 + (e.val - 32)), by omega⟩ : Fin 2048) = col 0 h e := Fin.ext (by rw [h0]; dsimp only; omega)
    rw [e1, e2]

/-- and for the keys. -/
theorem cosk_apply (l : Fin 2048) (f : Fin 32) : K_main_v47 (F := Ideal) (ix2 l f) = (Ideal.cos (angle l f) : EReal) := by
  pointwise [K_main_v47, K_main_v46, K_main_v45, K_main_v44, K_main_v43, K_main_v42, K_main_v41, K_main_v40, K_main_v39, K_main_v38, K_main_v37, K_main_v36, K_main_v35, K_main_cst_1, K_main_cst_2, K_main_v0]
  rfl
theorem sink_apply (l : Fin 2048) (f : Fin 32) : K_main_v49 (F := Ideal) (ix2 l f) = (Ideal.sin (angle l f) : EReal) := by
  pointwise [K_main_v49, K_main_v46, K_main_v45, K_main_v44, K_main_v43, K_main_v42, K_main_v41, K_main_v40, K_main_v39, K_main_v38, K_main_v37, K_main_v36, K_main_v35, K_main_cst_1, K_main_cst_2, K_main_v0]
  rfl

/-- and every rotated key times its scale. -/
theorem key_row (b : Fin 8) (l : Fin 2048) (h : Fin 8) (e : Fin 64) :
    A_main_v63 (F := Ideal) a0 (ix4 b l h e) * Ideal.ofBits .f32 0x3E000000#32 = (key (fun b l j => a0 (ix3 b l j)) b h l e : EReal) := by
  pointwise [A_main_v63, A_main_v62, A_main_v61, A_main_v59, A_main_v57, A_main_v56, A_main_v54, A_main_v52, A_main_v51, A_main_v34, A_main_v2,
    K_main_v48, K_main_v50, K_main_v53, K_main_v55, K_main_v58, K_main_v60]
  refine congrArg (· * Ideal.ofBits .f32 0x3E000000#32) ?_
  simp only [cosk_apply, sink_apply]
  unfold rot
  have h0 : ∀ e : Fin 64, (col 1 h e).val = 1 * 512 + h.val * 64 + e.val := fun _ => rfl
  by_cases hl : e.val < 32
  · rw [dif_pos hl, dif_pos hl]
    have e1 : (⟨512 + (h.val * 64 + e.val), by omega⟩ : Fin 2048) = col 1 h e := Fin.ext (by rw [h0]; dsimp only; omega)
    have e2 : (⟨512 + (h.val * 64 + (32 + e.val)), by omega⟩ : Fin 2048) = col 1 h ⟨e.val + 32, by omega⟩ := Fin.ext (by rw [h0]; dsimp only; omega)
    rw [e1, e2]
  · rw [dif_neg hl, dif_neg hl]
    have e1 : (⟨512 + (h.val * 64 + (e.val - 32)), by omega⟩ : Fin 2048) = col 1 h ⟨e.val - 32, by omega⟩ := Fin.ext (by rw [h0]; dsimp only; omega)
    have e2 : (⟨512 + (h.val * 64 + (32 + (e.val - 32))), by omega⟩ : Fin 2048) = col 1 h e := Fin.ext (by rw [h0]; dsimp only; omega)
    rw [e1, e2]

end Cert.Proof.RetRef

end
-- ==== Proof.RetShape.lean ====
module

public import proofs.«01_k».proof.Proof.RetSpec
public import proofs.«01_k».proof.Proof.Gen.Reference2Ideal.Step
public import Idealize.ShloMosaic.Lib.Pointwise

/-!
# How the retention's reference arranges its rows and results
-/

@[expose] public section

set_option maxRecDepth 16384

noncomputable section

namespace Cert.Proof.RetRef

open Idealize.ShloMosaic Cert.Reference2Ideal Cert.Reference2Ideal.Gen Cert.Reference2Ideal.Step
open Cert.Proof.Ret

variable (a0 : FVec Ideal S8x2048x2048 .f32)

/-- Token `i` of chunk `n`. -/
theorem tok_eq (n : Fin 16) (i : Fin 128) : (⟨n.val * 128 + i.val, by omega⟩ : Fin 2048) = tok n.val i :=
  Fin.ext (Nat.mod_eq_of_lt (by omega)).symm

/-- The loop reads the values by chunk, -/
theorem value_apply (n : Fin 16) (b : Fin 8) (i : Fin 128) (h : Fin 8) (e : Fin 64) :
    A_main_v116 (F := Ideal) a0 (ix5 n b i h e) = (value (fun b l j => a0 (ix3 b l j)) b h (tok n.val i) e : EReal) := by
  pointwise [A_main_v116, A_main_v115, A_main_v66, A_main_v3]
  rw [tok_eq]
  exact congrArg (fun j => a0 (ix3 b (tok n.val i) j)) (Fin.ext (by show _ = 2 * 512 + h.val * 64 + e.val; dsimp only; omega))

/-- the queries, -/
theorem A112 (n : Fin 16) (b : Fin 8) (i : Fin 128) (h : Fin 8) (e : Fin 64) :
    A_main_v112 (F := Ideal) a0 (ix5 n b i h e) = (A_main_v33 (F := Ideal) a0 (ix4 b (tok n.val i) h e) : EReal) := by
  pointwise [A_main_v112, A_main_v111]
  rw [tok_eq]

/-- and the scaled keys. -/
theorem A114 (n : Fin 16) (b : Fin 8) (i : Fin 128) (h : Fin 8) (e : Fin 64) :
    A_main_v114 (F := Ideal) a0 (ix5 n b i h e) = (A_main_v63 (F := Ideal) a0 (ix4 b (tok n.val i) h e) * Ideal.ofBits .f32 0x3E000000#32 : EReal) := by
  pointwise [A_main_v114, A_main_v113, A_main_v65, K_main_v64, K_main_cst_3]
  rw [tok_eq]

/-- The second result: the last states, a pair of heads an array. -/
theorem last_apply (s : State Ideal) (b : Fin 8) (r : Fin 4) (i j : Fin 128) : R_main_v161 s (ix4 b r i j) =
    (if i.val / 64 = j.val / 64 then s.main_v118_8 (ix4 b ⟨2 * r.val + i.val / 64, by omega⟩ ⟨i.val % 64, by omega⟩ ⟨j.val % 64, by omega⟩) else 0 : EReal) := by
  generalize hR : (if i.val / 64 = j.val / 64 then s.main_v118_8 (ix4 b ⟨2 * r.val + i.val / 64, by omega⟩ ⟨i.val % 64, by omega⟩ ⟨j.val % 64, by omega⟩) else 0 : EReal) = R
  have h0 : i.val / 64 ≠ j.val / 64 → R = 0 := fun h => by rw [← hR, if_neg h]
  have h1 : ∀ x y z, i.val / 64 = j.val / 64 → x = 2 * r.val + i.val / 64 → y = i.val % 64 → z = j.val % 64 → ∀ hx hy hz,
      s.main_v118_8 (ix4 b ⟨x, hx⟩ ⟨y, hy⟩ ⟨z, hz⟩) = R := fun x y z h ex ey ez hx hy hz => by
    subst ex ey ez; rw [← hR, if_pos h]
  clear hR
  pointwise [R_main_v161]
  split_ifs
  all_goals first
    | exact (h0 (by omega)).symm
    | exact h1 _ _ _ (by omega) (by omega) (by omega) (by omega) _ _ _

/-- The logistic function written out, as the reference's gate computes it. -/
theorem div_one_add_exp (x : EReal) : Ideal.div 1 (1 + Ideal.exp (-x)) = Ideal.logistic x := rfl

/-- The first result: the head norm of what the tokens read, gated. -/
theorem out_apply (s : State Ideal) (a0 : FVec Ideal S8x2048x2048 .f32) (a2 a3 : FVec Ideal S512 .f32) (b : Fin 8) (l : Fin 2048) (j : Fin 512) :
    R_main_v150 s a0 a2 a3 (ix3 b l j)
      = (gated (fun e => s.main_v118_9 (ix5 ⟨l.val / 128, by omega⟩ b ⟨l.val % 128, by omega⟩ ⟨j.val / 64, by omega⟩ e))
          (fun e => a2 (ix1 (unit ⟨j.val / 64, by omega⟩ e))) (fun e => a3 (ix1 (unit ⟨j.val / 64, by omega⟩ e)))
          (fun e => a0 (ix3 b l (col 3 ⟨j.val / 64, by omega⟩ e))) ⟨j.val % 64, by omega⟩ : EReal) := by
  have hu : unit ⟨j.val / 64, by omega⟩ ⟨j.val % 64, by omega⟩ = j := Fin.ext (by show j.val / 64 * 64 + j.val % 64 = _; omega)
  have hc : col 3 ⟨j.val / 64, by omega⟩ ⟨j.val % 64, by omega⟩ = ⟨1536 + j.val, by omega⟩ :=
    Fin.ext (by show 3 * 512 + j.val / 64 * 64 + j.val % 64 = 1536 + j.val; omega)
  unfold gated headNorm centred
  beta_reduce
  rw [hu, hc, ← div_one_add_exp]
  pointwise [R_main_v150]

end Cert.Proof.RetRef

end
-- ==== Proof.RetRun.lean ====
module

public import proofs.«01_k».proof.Proof.Gen.Reference2Ideal.Run
public import proofs.«01_k».proof.Proof.Gen.Reference2Ideal.Step
public import Idealize.ShloMosaic.Lib.Pointwise

/-!
# The run of the retention's reference

The reference's loop over the 16 chunks carries buffers. While it runs, those buffers hold a trip's state: the results of
a run are the closing operations applied to the state that 16 trips make of the first one.
-/

@[expose] public section

set_option maxRecDepth 8192

noncomputable section

namespace Cert.Proof.RetRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State init step K_main_v91 K_main_v99 K_main_v107 K_main_v110 R_main_v150 R_main_v161)

/-- The carried buffers of `V` hold state `s` before trip `j`, beside the four tables of decays. -/
structure Carries (V : Valuation τ sig (Elt Ideal)) (s : State Ideal) (j : ℕ) : Prop where
  queries : V (Proc.devRef .tc main_v118_0) = s.main_v118_0
  keys : V (Proc.devRef .tc main_v118_1) = s.main_v118_1
  values : V (Proc.devRef .tc main_v118_2) = s.main_v118_2
  mask : V (Proc.devRef .tc main_v118_3) = K_main_v91
  qdec : V (Proc.devRef .tc main_v118_4) = K_main_v99
  cdec : V (Proc.devRef .tc main_v118_5) = K_main_v110
  kdec : V (Proc.devRef .tc main_v118_6) = K_main_v107
  trip : V (Proc.devRef .tc main_v118_7) = constantI S_ 32 (BitVec.ofNat 32 j)
  state : V (Proc.devRef .tc main_v118_8) = s.main_v118_8
  outs : V (Proc.devRef .tc main_v118_9) = s.main_v118_9

variable {V : Valuation τ sig (Elt Ideal)} {s : State Ideal} {j : ℕ}

/-- A trip leaves the next chunk's state in its buffer, -/
theorem state_step (h : Carries V s j) : step_main_v118_8 V = (step j s).main_v118_8 := by
  unfold step_main_v118_8 res_main_while0b_v163 res_main_while0b_v164
  rw [h.state, h.cdec, h.kdec, h.keys, h.values, h.trip]
  rfl

/-- the outputs with its own chunk's filled in, -/
theorem outs_step (h : Carries V s j) : step_main_v118_9 V = (step j s).main_v118_9 := by
  unfold step_main_v118_9 res_main_while0b_v162 res_main_while0b_v163 res_main_while0b_v164
  rw [h.state, h.outs, h.qdec, h.mask, h.queries, h.keys, h.values, h.trip]
  rfl

/-- and the next trip's number. -/
theorem trip_step (h : Carries V s j) : step_main_v118_7 V = constantI S_ 32 (BitVec.ofNat 32 (j + 1)) := by
  unfold step_main_v118_7
  rw [h.trip]
  funext i
  show BitVec.ofNat 32 j + 1#32 = BitVec.ofNat 32 (j + 1)
  rw [BitVec.ofNat_add]

theorem Carries.next (h : Carries V s j) : Carries (STEP V) (step j s) (j + 1) where
  queries := (STEP_main_v118_0 V).trans h.queries
  keys := (STEP_main_v118_1 V).trans h.keys
  values := (STEP_main_v118_2 V).trans h.values
  mask := (STEP_main_v118_3 V).trans h.mask
  qdec := (STEP_main_v118_4 V).trans h.qdec
  cdec := (STEP_main_v118_5 V).trans h.cdec
  kdec := (STEP_main_v118_6 V).trans h.kdec
  trip := (STEP_main_v118_7 V).trans (trip_step h)
  state := (STEP_main_v118_8 V).trans (state_step h)
  outs := (STEP_main_v118_9 V).trans (outs_step h)

/-- The state after `n` trips. -/
def trips (s : State Ideal) : ℕ → State Ideal
  | 0 => s
  | n + 1 => step n (trips s n)

theorem Carries.iterate (h : Carries V s 0) : ∀ n, Carries (STEP^[n] V) (trips s n) n
  | 0 => h
  | n + 1 => by
    rw [Function.iterate_succ_apply']
    exact (h.iterate n).next

variable (m : (ℓ : Loc nD τ sig) → Buf (Elt Ideal) ℓ) (ρ : Dev nD → PrngReg) (c : Dev nD)

/-- The first state, from the launch's arguments. -/
abbrev first : State Ideal := init (m ((c.tc : Thread nD τ).loc main_arg1)) (m ((c.tc : Thread nD τ).loc main_arg0))

set_option maxRecDepth 65536 in
set_option maxHeartbeats 3000000 in
/-- What the operations before the loop leave. -/
theorem entry : Carries (entryContents preI m c) (first m c) 0 := by
  constructor <;> (simp only [entryContents, preI, afterL_cons, afterL_nil]; after_reads_simp) <;> rfl

set_option maxHeartbeats 1000000 in
/-- A run of the reference ends with its closing operations applied to the state after 16 trips, its arguments unchanged. -/
theorem result : θ_run (defs (F := Ideal)) (onTc (τ := τ) (main (F := Ideal))) ⟨m, fun _ => 0, ρ⟩ fun r => ∀ c : Dev nD,
      r.2.mem ((c.tc : Thread nD τ).loc main_v150) = R_main_v150 (trips (first m c) 16) (m ((c.tc : Thread nD τ).loc main_arg0))
          (m ((c.tc : Thread nD τ).loc main_arg2)) (m ((c.tc : Thread nD τ).loc main_arg3))
      ∧ r.2.mem ((c.tc : Thread nD τ).loc main_v161) = R_main_v161 (trips (first m c) 16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ⟨(h c).1.trans ?_, (h c).2.1.trans ?_, (h c).2.2⟩) (Value.run m ρ)
  · have hk := (entry m c).iterate 16
    unfold out_main_v150 R_main_v150
    rw [hk.outs, iter_main_arg0 m c 16, iter_main_arg2 m c 16, iter_main_arg3 m c 16]
    rfl
  · have hk := (entry m c).iterate 16
    unfold out_main_v161 R_main_v161
    rw [hk.state]

end Cert.Proof.RetRun

end
-- ==== Proof.RetRef.lean ====
module

public import proofs.«01_k».proof.Proof.RetSpec
public import proofs.«01_k».proof.Proof.Gen.Reference2Ideal.Step
public import Idealize.ShloMosaic.Lib.Pointwise
public import proofs.«01_k».proof.Proof.RetTables
public import proofs.«01_k».proof.Proof.RetShape
public import proofs.«01_k».proof.Proof.RetRun

/-!
# What the retention's reference computes
-/

@[expose] public section

set_option maxRecDepth 16384

noncomputable section

namespace Cert.Proof.RetRef

open Idealize.ShloMosaic Cert.Reference2Ideal Cert.Reference2Ideal.Gen Cert.Reference2Ideal.Step
open Cert.Proof.Ret

/-- The trip number as the 32-bit index the loop counts with. -/
theorem toInt_trip : ∀ e : Fin 16, (BitVec.ofNat 32 e.val).toInt = e.val := by decide

/-- A window of one leading entry, cut at a start inside the axis, reads that entry. -/
theorem slice5 {N a b c d : ℕ} (x : FVec Ideal (⟨5, ![N, a, b, c, d]⟩ : Shape) .f32) (start : Fin 5 → Int) (e : Fin N)
    (hf : (⟨5, ![N, a, b, c, d]⟩ : Shape).Slices (fun _ => 0) ⟨5, ![1, a, b, c, d]⟩) (h0 : start 0 = e.val) (h1 : start 1 = 0) (h2 : start 2 = 0)
    (h3 : start 3 = 0) (h4 : start 4 = 0) (i : Fin a) (j : Fin b) (k : Fin c) (l : Fin d) :
    Host.dynamicSlice ⟨5, ![1, a, b, c, d]⟩ x start hf (ix5 0 i j k l) = x (ix5 e i j k l) := by
  have c0 := Host.clampedStart_of_le hf.1 start 0 e.val h0 (by show e.val + 1 ≤ N; omega)
  have c1 := Host.clampedStart_of_le hf.1 start 1 0 h1 (by show 0 + a ≤ a; omega)
  have c2 := Host.clampedStart_of_le hf.1 start 2 0 h2 (by show 0 + b ≤ b; omega)
  have c3 := Host.clampedStart_of_le hf.1 start 3 0 h3 (by show 0 + c ≤ c; omega)
  have c4 := Host.clampedStart_of_le hf.1 start 4 0 h4 (by show 0 + d ≤ d; omega)
  refine congrArg x (funext fun q => Fin.ext ?_)
  match q with
  | ⟨0, _⟩ => exact c0
  | ⟨1, _⟩ => exact (congrArg (· + i.val) c1).trans (Nat.zero_add _)
  | ⟨2, _⟩ => exact (congrArg (· + j.val) c2).trans (Nat.zero_add _)
  | ⟨3, _⟩ => exact (congrArg (· + k.val) c3).trans (Nat.zero_add _)
  | ⟨4, _⟩ => exact (congrArg (· + l.val) c4).trans (Nat.zero_add _)

/-- The trip's queries, keys and values are chunk `n`'s. -/
theorem b5_apply (n : Fin 16) (s : State Ideal) (b : Fin 8) (i : Fin 128) (h : Fin 8) (e : Fin 64) :
    b5 n.val s (ix4 b i h e) = s.main_v118_0 (ix5 n b i h e) := by
  pointwise [b5]
  unfold b4
  refine slice5 _ _ n _ ?_ ?_ ?_ ?_ ?_ b i h e
  · exact toInt_trip n
  all_goals rfl

theorem b11_apply (n : Fin 16) (s : State Ideal) (b : Fin 8) (i : Fin 128) (h : Fin 8) (e : Fin 64) :
    b11 n.val s (ix4 b i h e) = s.main_v118_1 (ix5 n b i h e) := by
  pointwise [b11]
  unfold b10
  refine slice5 _ _ n _ ?_ ?_ ?_ ?_ ?_ b i h e
  · exact toInt_trip n
  all_goals rfl

theorem b17_apply (n : Fin 16) (s : State Ideal) (b : Fin 8) (i : Fin 128) (h : Fin 8) (e : Fin 64) :
    b17 n.val s (ix4 b i h e) = s.main_v118_2 (ix5 n b i h e) := by
  pointwise [b17]
  unfold b16
  refine slice5 _ _ n _ ?_ ?_ ?_ ?_ ?_ b i h e
  · exact toInt_trip n
  all_goals rfl

/-- Writing one leading entry at a start inside the axis: the entry is the update's, the others stay. -/
theorem update5 {N a b c d : ℕ} (x : FVec Ideal (⟨5, ![N, a, b, c, d]⟩ : Shape) .f32) (u : FVec Ideal (⟨5, ![1, a, b, c, d]⟩ : Shape) .f32)
    (start : Fin 5 → Int) (e : Fin N) (hf : (⟨5, ![N, a, b, c, d]⟩ : Shape).Slices (fun _ => 0) ⟨5, ![1, a, b, c, d]⟩)
    (h0 : start 0 = e.val) (h1 : start 1 = 0) (h2 : start 2 = 0)
    (h3 : start 3 = 0) (h4 : start 4 = 0) (n : Fin N) (i : Fin a) (j : Fin b) (k : Fin c) (l : Fin d) :
    Host.dynamicUpdateSlice x u start hf (ix5 n i j k l) = if n = e then u (ix5 0 i j k l) else x (ix5 n i j k l) := by
  have c0 := Host.clampedStart_of_le hf.1 start 0 e.val h0 (by show e.val + 1 ≤ N; omega)
  have c1 := Host.clampedStart_of_le hf.1 start 1 0 h1 (by show 0 + a ≤ a; omega)
  have c2 := Host.clampedStart_of_le hf.1 start 2 0 h2 (by show 0 + b ≤ b; omega)
  have c3 := Host.clampedStart_of_le hf.1 start 3 0 h3 (by show 0 + c ≤ c; omega)
  have c4 := Host.clampedStart_of_le hf.1 start 4 0 h4 (by show 0 + d ≤ d; omega)
  rw [Host.dynamicUpdateSlice_apply]
  by_cases hn : n = e
  · subst hn
    rw [if_pos rfl, dif_pos]
    · refine congrArg u (funext fun q => Fin.ext ?_)
      match q with
      | ⟨0, _⟩ => exact (congrArg (n.val - ·) c0).trans (Nat.sub_self _)
      | ⟨1, _⟩ => exact (congrArg (i.val - ·) c1).trans (Nat.sub_zero _)
      | ⟨2, _⟩ => exact (congrArg (j.val - ·) c2).trans (Nat.sub_zero _)
      | ⟨3, _⟩ => exact (congrArg (k.val - ·) c3).trans (Nat.sub_zero _)
      | ⟨4, _⟩ => exact (congrArg (l.val - ·) c4).trans (Nat.sub_zero _)
    · intro q
      match q with
      | ⟨0, _⟩ => exact ⟨Nat.le_of_eq c0, lt_of_lt_of_eq (Nat.lt_succ_self _) (congrArg (· + 1) c0.symm)⟩
      | ⟨1, _⟩ => exact ⟨(Nat.le_of_eq c1).trans (Nat.zero_le _), lt_of_lt_of_eq i.isLt ((Nat.zero_add a).symm.trans (congrArg (· + a) c1.symm))⟩
      | ⟨2, _⟩ => exact ⟨(Nat.le_of_eq c2).trans (Nat.zero_le _), lt_of_lt_of_eq j.isLt ((Nat.zero_add b).symm.trans (congrArg (· + b) c2.symm))⟩
      | ⟨3, _⟩ => exact ⟨(Nat.le_of_eq c3).trans (Nat.zero_le _), lt_of_lt_of_eq k.isLt ((Nat.zero_add c).symm.trans (congrArg (· + c) c3.symm))⟩
      | ⟨4, _⟩ => exact ⟨(Nat.le_of_eq c4).trans (Nat.zero_le _), lt_of_lt_of_eq l.isLt ((Nat.zero_add d).symm.trans (congrArg (· + d) c4.symm))⟩
  · rw [if_neg hn, dif_neg]
    intro h
    have h0 := h (0 : Fin 5)
    have hl : Host.clampedStart _ _ hf.1 start 0 ≤ n.val := h0.1
    have hr : n.val < Host.clampedStart _ _ hf.1 start 0 + 1 := h0.2
    rw [c0] at hl hr
    exact hn (Fin.ext (by omega))

/-- The trip writes its chunk's entry of the outputs. -/
theorem b45_apply (n : Fin 16) (s : State Ideal) (k : Fin 16) (b : Fin 8) (i : Fin 128) (h : Fin 8) (e : Fin 64) :
    b45 n.val s (ix5 k b i h e) = (if k = n then b30 n.val s (ix4 b i h e) else s.main_v118_9 (ix5 k b i h e) : EReal) := by
  unfold b45
  refine (update5 _ _ _ n _ ?_ ?_ ?_ ?_ ?_ k b i h e).trans ?_
  · exact toInt_trip n
  iterate 4 rfl
  refine ite_congr rfl (fun _ => ?_) fun _ => rfl
  pointwise [b40]

/-- ONE TRIP carries every head's state over the chunk, -/
theorem carry_apply (n : Fin 16) (s : State Ideal) (b h : Fin 8) (d e : Fin 64) :
    b39 n.val s (ix4 b h d e)
      = (carry (logDecay h) (fun i e => s.main_v118_1 (ix5 n b i h e)) (fun i e => s.main_v118_2 (ix5 n b i h e))
          (fun d e => s.main_v118_8 (ix4 b h d e)) d e : EReal) := by
  pointwise [b39, b38, b37, b36, b35, b34, b33, b32, b31]
  simp only [b11_apply, b17_apply, cdec_apply, kdec_apply]
  rfl

/-- and reads it and the chunk for every token of the chunk. -/
theorem read_apply (n : Fin 16) (s : State Ideal) (b h : Fin 8) (i : Fin 128) (e : Fin 64) :
    b30 n.val s (ix4 b i h e)
      = (read (logDecay h) (fun i e => s.main_v118_0 (ix5 n b i h e)) (fun i e => s.main_v118_1 (ix5 n b i h e))
          (fun i e => s.main_v118_2 (ix5 n b i h e)) (fun d e => s.main_v118_8 (ix4 b h d e)) i e : EReal) := by
  pointwise [b30, b29, b28, b27, b26, b25, b24, b23, b22, b21, b20, b19, b18]
  simp only [b5_apply, b11_apply, b17_apply, qdec_apply, mask_apply]
  exact congrArg₂ (· + ·) (Finset.sum_congr rfl fun j _ => mul_comm _ _) (Finset.sum_congr rfl fun d _ => mul_comm _ _)

/-! ## The chunks in turn -/

open Cert.Proof.RetRun (trips)

variable (a0 : FVec Ideal S8x2048x2048 .f32) (a1 : FVec Ideal S8x8x64x64 .f32) (a2 a3 : FVec Ideal S512 .f32)

theorem keeps_queries (n : ℕ) : (trips (init (F := Ideal) a1 a0) n).main_v118_0 = A_main_v112 a0 := by
  induction n with
  | zero => rfl
  | succ n ih => exact ih
theorem keeps_keys (n : ℕ) : (trips (init (F := Ideal) a1 a0) n).main_v118_1 = A_main_v114 a0 := by
  induction n with
  | zero => rfl
  | succ n ih => exact ih
theorem keeps_values (n : ℕ) : (trips (init (F := Ideal) a1 a0) n).main_v118_2 = A_main_v116 a0 := by
  induction n with
  | zero => rfl
  | succ n ih => exact ih

/-- The loop's queries are the formula's, -/
theorem loop_query (n : Fin 16) (b : Fin 8) (i : Fin 128) (h : Fin 8) (e : Fin 64) :
    A_main_v112 (F := Ideal) a0 (ix5 n b i h e) = (query (fun b l j => a0 (ix3 b l j)) b h (tok n.val i) e : EReal) :=
  (A112 a0 n b i h e).trans (query_row a0 _ _ _ _)

/-- and so are its keys. -/
theorem loop_key (n : Fin 16) (b : Fin 8) (i : Fin 128) (h : Fin 8) (e : Fin 64) :
    A_main_v114 (F := Ideal) a0 (ix5 n b i h e) = (key (fun b l j => a0 (ix3 b l j)) b h (tok n.val i) e : EReal) :=
  (A114 a0 n b i h e).trans (key_row a0 _ _ _ _)

/-- After `n` trips the loop carries the states before chunk `n`, -/
theorem states_apply : ∀ n, n ≤ 16 → ∀ (b h : Fin 8) (d e : Fin 64), (trips (init (F := Ideal) a1 a0) n).main_v118_8 (ix4 b h d e)
    = (states (fun b l j => a0 (ix3 b l j)) (fun b h d e => a1 (ix4 b h d e)) b h n d e : EReal)
  | 0, _, _, _, _, _ => rfl
  | n + 1, hn, b, h, d, e => by
    have ih := states_apply n (by omega)
    show (step n (trips (init (F := Ideal) a1 a0) n)).main_v118_8 (ix4 b h d e) = _
    rw [step_main_v118_8]
    refine (carry_apply ⟨n, hn⟩ (trips (init (F := Ideal) a1 a0) n) b h d e).trans ?_
    rw [keeps_keys, keeps_values]
    simp only [loop_key, value_apply, ih]
    rfl

/-- and holds what the tokens of the chunks before read. -/
theorem reads_apply : ∀ n, n ≤ 16 → ∀ k : Fin 16, k.val < n → ∀ (b h : Fin 8) (i : Fin 128) (e : Fin 64),
    (trips (init (F := Ideal) a1 a0) n).main_v118_9 (ix5 k b i h e)
      = (reads (fun b l j => a0 (ix3 b l j)) (fun b h d e => a1 (ix4 b h d e)) b h k.val i e : EReal)
  | n + 1, hn, k, hk, b, h, i, e => by
    have ih := reads_apply n (by omega) k
    show (step n (trips (init (F := Ideal) a1 a0) n)).main_v118_9 (ix5 k b i h e) = _
    rw [step_main_v118_9]
    refine (b45_apply ⟨n, hn⟩ (trips (init (F := Ideal) a1 a0) n) k b i h e).trans ?_
    by_cases hkn : k = ⟨n, hn⟩
    · rw [if_pos hkn, read_apply ⟨n, hn⟩, keeps_queries, keeps_keys, keeps_values]
      subst hkn
      simp only [loop_query, loop_key, value_apply, states_apply a0 a1 n (by omega)]
      rfl
    · rw [if_neg hkn]
      exact ih (by have : k.val ≠ n := fun h => hkn (Fin.ext h); omega) b h i e

/-- THE FIRST RESULT of the reference: the layer's formula at every token and lane. -/
theorem result_apply (b : Fin 8) (l : Fin 2048) (j : Fin 512) :
    R_main_v150 (trips (init (F := Ideal) a1 a0) 16) a0 a2 a3 (ix3 b l j)
      = (result (fun b l j => a0 (ix3 b l j)) (fun b h d e => a1 (ix4 b h d e)) (fun j => a2 (ix1 j)) (fun j => a3 (ix1 j)) b
          ⟨j.val / 64, by omega⟩ (l.val / 128) ⟨l.val % 128, by omega⟩ ⟨j.val % 64, by omega⟩ : EReal) := by
  have ht : tok (l.val / 128) ⟨l.val % 128, by omega⟩ = l := Fin.ext (by show (l.val / 128 * 128 + l.val % 128) % 2048 = _; omega)
  rw [out_apply]
  simp only [reads_apply a0 a1 16 (le_refl _) ⟨l.val / 128, by omega⟩ (by show l.val / 128 < 16; omega)]
  unfold result
  rw [ht]

/-- THE SECOND RESULT of the reference: the states after the last chunk. -/
theorem lasts_apply (b : Fin 8) (r : Fin 4) (i j : Fin 128) :
    R_main_v161 (trips (init (F := Ideal) a1 a0) 16) (ix4 b r i j)
      = (pair (fun b l j => a0 (ix3 b l j)) (fun b h d e => a1 (ix4 b h d e)) b r 16 ⟨i.val / 64, by omega⟩ ⟨j.val / 64, by omega⟩
          ⟨i.val % 64, by omega⟩ ⟨j.val % 64, by omega⟩ : EReal) := by
  rw [last_apply]
  unfold pair
  simp only [states_apply a0 a1 16 (le_refl _), Fin.mk.injEq]
  rfl

end Cert.Proof.RetRef

end
-- ==== Proof.RetEq.lean ====
module

public import proofs.«01_k».proof.Defs
public import proofs.«01_k».proof.Proof.RetOut
public import proofs.«01_k».proof.Proof.RetRef
public import proofs.«01_k».proof.Proof.Gen.Kernel2Ideal.Value
public import Idealize.ShloMosaic.Lib.Quiescent

/-!
# The retention's kernel equals the retention's reference
-/

@[expose] public section

set_option maxRecDepth 16384

noncomputable section

namespace Cert.Proof.RetEq

open Idealize.ShloMosaic Idealize.SL.Sem

/-- `Cert.quiescent_Reference2Ideal`: the reference ends with its arguments unchanged. -/
theorem frame_ref : Cert.quiescent_Reference2Ideal (hReference2Ideal := Cert.Reference2Ideal.Gen.facts) := fun m ρ _ =>
  (θ_run _ _ _).mono (fun r h => ⟨fun c => (h c).2.2, sem_eq_zero_of_no_sems (by decide) r.2⟩) (RetRun.result m ρ)

/-- `Cert.algebraic_Kernel2Ideal_Reference2Ideal`: the two programs end with equal outputs and equal last states. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Ret.outputs m c, fun c => Ret.lasts m c, ?_, ?_⟩
  · exact (θ_run _ _ _).mono (fun _ h c => ⟨(h c).1.trans (Ret.outputs_eq m c), (h c).2.1.trans (Ret.lasts_eq m c), (h c).2.2⟩)
      (Cert.Kernel2Ideal.Value.run_blocks m ρ)
  · refine (θ_run _ _ _).mono (fun _ h c => ⟨(h c).1.trans ?_, (h c).2.1.trans ?_, (h c).2.2⟩) (RetRun.result m' ρ')
    · obtain ⟨a0, a1, a2, a3⟩ := hagree c
      funext i
      obtain ⟨b, l, j, rfl⟩ : ∃ (b : Fin 8) (l : Fin 2048) (j : Fin 512), i = ix3 b l j :=
        ⟨i 0, i 1, i 2, funext fun a => by match a with | ⟨0, _⟩ => rfl | ⟨1, _⟩ => rfl | ⟨2, _⟩ => rfl⟩
      refine (RetRef.result_apply _ _ _ _ b l j).trans ?_
      rw [a0, a1, a2, a3]
      rfl
    · obtain ⟨a0, a1, _, _⟩ := hagree c
      funext i
      obtain ⟨b, r, p, q, rfl⟩ : ∃ (b : Fin 8) (r : Fin 4) (p q : Fin 128), i = ix4 b r p q :=
        ⟨i 0, i 1, i 2, i 3, funext fun a => by match a with | ⟨0, _⟩ => rfl | ⟨1, _⟩ => rfl | ⟨2, _⟩ => rfl | ⟨3, _⟩ => rfl⟩
      refine (RetRef.lasts_apply _ _ b r p q).trans ?_
      rw [a0, a1]
      rfl

end Cert.Proof.RetEq

end
-- ==== Proof.ProjSpec.lean ====
module

public import Idealize.ShloMosaic.Lib.Pointwise

/-!
# One row through the modulated norm and a projection
-/

@[expose] public section

set_option maxRecDepth 16384

noncomputable section

namespace Cert.Proof.Proj

open Idealize.ShloMosaic

/-- Lane `d` of a token row `x` divided by the root of its mean square plus the constant, times the norm's weight `g`,
    scaled by one plus `sc` and shifted by `sh`. -/
def modulated (x g sh sc : Fin 1024 → EReal) (d : Fin 1024) : EReal :=
  x d * Ideal.rsqrt (Ideal.div (∑ k, x k * x k) (Ideal.ofBits .f32 0x44800000#32) + Ideal.ofBits .f32 0x358637BD#32) * g d
    * (1 + sc d) + sh d

/-- The modulated row against one column `w` of a projection. -/
def projected (x g sh sc w : Fin 1024 → EReal) : EReal := ∑ k, modulated x g sh sc k * w k

/-- Column `j` of a projection whose columns start at `o`. -/
def col {n m : ℕ} (o : ℕ) (h : o + n ≤ m) (j : Fin n) : Fin m := ⟨o + j.val, by omega⟩

end Cert.Proof.Proj

end
-- ==== Proof.QkvOut.lean ====
module

public import proofs.«01_k».proof.Proof.ProjSpec
public import proofs.«01_k».proof.Proof.Gen.Kernel3Ideal.Value
public import Idealize.ShloMosaic.Lib.Pipeline.ValueKit
public import Idealize.ShloMosaic.Lib.StableHlo.ReadAt

/-!
# What the projection to queries, keys and values leaves in its results
-/

@[expose] public section

set_option maxRecDepth 16384

noncomputable section

namespace Cert.Proof.Qkv

open Idealize.ShloMosaic Idealize.ShloMosaic.TcCoe Cert.Kernel3Ideal Cert.Kernel3Ideal.Gen Cert.Proof.Proj

/-- The body's modulated rows, -/
theorem rows_apply (x : Vec Ideal S1x256x1024 .f32) (g : Vec Ideal S1x1024 .f32) (sh sc : Vec Ideal S1x1x1024 .f32) (r : Fin 256) (d : Fin 1024) :
    k0_pay4 x g sh sc (ix2 r d) = modulated (fun k => x (ix3 0 r k)) (fun k => g (ix2 0 k)) (fun k => sh (ix3 0 0 k)) (fun k => sc (ix3 0 0 k)) d := by
  pointwise [k0_pay4]
  rfl

/-- and what it stores of them: the products and the added row. -/
theorem store10_apply (x : Vec Ideal S1x256x1024 .f32) (g : Vec Ideal S1x1024 .f32) (sh sc : Vec Ideal S1x1x1024 .f32) (w : Vec Ideal S1024x1024 .bf16) (b : Vec Ideal S1x1024 .f32)
    (r : Fin 256) (j : Fin 1024) : k0_pay1 (k0_pay5 x g sh sc w b) (ix3 0 r j)
      = projected (fun k => x (ix3 0 r k)) (fun k => g (ix2 0 k)) (fun k => sh (ix3 0 0 k)) (fun k => sc (ix3 0 0 k)) (fun k => w (ix2 k j)) + b (ix2 0 j) := by
  pointwise [k0_pay1, k0_pay5]
  simp only [rows_apply]
  rfl

theorem store11_apply (x : Vec Ideal S1x256x1024 .f32) (g : Vec Ideal S1x1024 .f32) (sh sc : Vec Ideal S1x1x1024 .f32) (w : Vec Ideal S1024x1024 .bf16) (b : Vec Ideal S1x1024 .f32)
    (r : Fin 256) (j : Fin 1024) : k0_pay2 (k0_pay4 x g sh sc) w b (ix3 0 r j)
      = projected (fun k => x (ix3 0 r k)) (fun k => g (ix2 0 k)) (fun k => sh (ix3 0 0 k)) (fun k => sc (ix3 0 0 k)) (fun k => w (ix2 k j)) + b (ix2 0 j) := by
  pointwise [k0_pay2]
  simp only [rows_apply]
  rfl

theorem store12_apply (x : Vec Ideal S1x256x1024 .f32) (g : Vec Ideal S1x1024 .f32) (sh sc : Vec Ideal S1x1x1024 .f32) (w : Vec Ideal S1024x1024 .bf16) (b : Vec Ideal S1x1024 .f32)
    (r : Fin 256) (j : Fin 1024) : k0_pay3 (k0_pay4 x g sh sc) w b (ix3 0 r j)
      = projected (fun k => x (ix3 0 r k)) (fun k => g (ix2 0 k)) (fun k => sh (ix3 0 0 k)) (fun k => sc (ix3 0 0 k)) (fun k => w (ix2 k j)) + b (ix2 0 j) := by
  pointwise [k0_pay3]
  simp only [rows_apply]
  rfl

variable (m : (ℓ : Loc nD τ sig) → Buf (Elt Ideal) ℓ) (c : Dev nD)

/-- Which block each window reads or writes at point `t`: batch row `t / 8`, tile `t % 8` of its tokens. -/
theorem idx : ∀ t : Fin cfg0.N, win0_0.index t = ![t.val / 8, t.val % 8, 0] ∧ win0_1.index t = ![0, 0] ∧ win0_2.index t = ![t.val / 8, 0, 0] ∧ win0_3.index t = ![t.val / 8, 0, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val / 8, t.val % 8, 0] ∧ win0_11.index t = ![t.val / 8, t.val % 8, 0] ∧ win0_12.index t = ![t.val / 8, t.val % 8, 0] :=
  (by decide +kernel : ∀ t : Fin grid0.N, _)

/-! ## The arrays that the host hands over -/

theorem V_g (k : Fin 1024) : V m c main_v9 (ix2 0 k) = m ((c : Thread nD τ).loc main_arg1) (ix1 k) := by
  unfold V
  after_reads_at

theorem V_shift (b : Fin 8) (k : Fin 1024) : V m c main_v4 (ix3 b 0 k) = m ((c : Thread nD τ).loc main_arg2) (ix2 b k) := by
  unfold V
  after_reads_at

theorem V_scale (b : Fin 8) (k : Fin 1024) : V m c main_v5 (ix3 b 0 k) = m ((c : Thread nD τ).loc main_arg3) (ix2 b k) := by
  unfold V
  after_reads_at

theorem V_w10 (k : Fin 1024) (j : Fin 1024) : V m c main_v1 (ix2 k j) = m ((c : Thread nD τ).loc main_arg4) (ix2 k (Fin.castLE (by decide) j)) := by
  unfold V
  after_reads_at
  rfl

theorem V_b10 (j : Fin 1024) : V m c main_v6 (ix2 0 j) = m ((c : Thread nD τ).loc main_arg5) (ix1 j) := by
  unfold V
  after_reads_at

theorem V_w11 (k : Fin 1024) (j : Fin 1024) : V m c main_v2 (ix2 k j) = m ((c : Thread nD τ).loc main_arg4) (ix2 k (col 1024 (by decide) j)) := by
  unfold V
  after_reads_at
  rfl

theorem V_b11 (j : Fin 1024) : V m c main_v7 (ix2 0 j) = m ((c : Thread nD τ).loc main_arg6) (ix1 j) := by
  unfold V
  after_reads_at

theorem V_w12 (k : Fin 1024) (j : Fin 1024) : V m c main_v3 (ix2 k j) = m ((c : Thread nD τ).loc main_arg4) (ix2 k (col 2048 (by decide) j)) := by
  unfold V
  after_reads_at
  rfl

theorem V_b12 (j : Fin 1024) : V m c main_v8 (ix2 0 j) = (0 : EReal) := by
  unfold V
  after_reads_at

/-! ## What a point reads -/

section blocks

variable (t : Fin cfg0.N) (b : Fin 8) (l : Fin 2048) (r : Fin 256) (k : Fin 1024)

theorem blk_x (hb : t.val / 8 = b) (hl : t.val % 8 * 256 + r.val = l) : iblk m c 0 t (ix3 0 r k) = m ((c : Thread nD τ).loc main_arg0) (ix3 b l k) := by
  blk_ext [iblk, V, idx t]

theorem blk_g : iblk m c 1 t (ix2 0 k) = m ((c : Thread nD τ).loc main_arg1) (ix1 k) := by
  rw [← V_g m]
  blk_ext [iblk, idx t]

theorem blk_shift (hb : t.val / 8 = b) : iblk m c 2 t (ix3 0 0 k) = m ((c : Thread nD τ).loc main_arg2) (ix2 b k) := by
  rw [← V_shift m]
  blk_ext [iblk, idx t]

theorem blk_scale (hb : t.val / 8 = b) : iblk m c 3 t (ix3 0 0 k) = m ((c : Thread nD τ).loc main_arg3) (ix2 b k) := by
  rw [← V_scale m]
  blk_ext [iblk, idx t]

theorem blk_w10 (j : Fin 1024) : iblk m c 4 t (ix2 k j) = m ((c : Thread nD τ).loc main_arg4) (ix2 k (Fin.castLE (by decide) j)) := by
  rw [← V_w10 m]
  blk_ext [iblk, idx t]

theorem blk_b10 (j : Fin 1024) : iblk m c 7 t (ix2 0 j) = m ((c : Thread nD τ).loc main_arg5) (ix1 j) := by
  rw [← V_b10 m c j]
  blk_ext [iblk, idx t]

theorem blk_w11 (j : Fin 1024) : iblk m c 5 t (ix2 k j) = m ((c : Thread nD τ).loc main_arg4) (ix2 k (col 1024 (by decide) j)) := by
  rw [← V_w11 m]
  blk_ext [iblk, idx t]

theorem blk_b11 (j : Fin 1024) : iblk m c 8 t (ix2 0 j) = m ((c : Thread nD τ).loc main_arg6) (ix1 j) := by
  rw [← V_b11 m c j]
  blk_ext [iblk, idx t]

theorem blk_w12 (j : Fin 1024) : iblk m c 6 t (ix2 k j) = m ((c : Thread nD τ).loc main_arg4) (ix2 k (col 2048 (by decide) j)) := by
  rw [← V_w12 m]
  blk_ext [iblk, idx t]

theorem blk_b12 (j : Fin 1024) : iblk m c 9 t (ix2 0 j) = (0 : EReal) := by
  rw [← V_b12 m c j]
  blk_ext [iblk, idx t]

end blocks

/-! ## The results -/

/-- The kernel's queries. -/
def queries : FVec Ideal S8x2048x1024 .f32 := fun y =>
  projected (fun k => m ((c : Thread nD τ).loc main_arg0) (ix3 (y 0) (y 1) k)) (fun k => m ((c : Thread nD τ).loc main_arg1) (ix1 k))
    (fun k => m ((c : Thread nD τ).loc main_arg2) (ix2 (y 0) k)) (fun k => m ((c : Thread nD τ).loc main_arg3) (ix2 (y 0) k))
    (fun k => m ((c : Thread nD τ).loc main_arg4) (ix2 k (Fin.castLE (by decide) (y 2)))) + m ((c : Thread nD τ).loc main_arg5) (ix1 (y 2))

/-- What a point leaves in its window of the queries. -/
theorem written10 (t : Fin cfg0.N) (b : Fin 8) (l : Fin 2048) (r : Fin 256) (j : Fin 1024) (hb : t.val / 8 = b) (hl : t.val % 8 * 256 + r.val = l) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r j) = queries m c (ix3 b l j) := by
  frame_out
  rw [store10_apply]
  simp only [blk_x m c t b l r _ hb hl, blk_g, blk_shift m c t b _ hb, blk_scale m c t b _ hb, blk_w10, blk_b10]
  rfl

theorem queries_eq : (dats m 0 c).arrAt 10 cfg0.N = queries m c := by
  refine (dats m 0 c).arrAt_eq_of_covers 10 _ (by decide +kernel) fun t _ y => ?_
  blk_simp [idx t]
  rw [after0_10]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written10 m c t ⟨t.val / 8, by omega⟩ ⟨t.val % 8 * 256 + r.val, by omega⟩ r j rfl rfl).trans ?_
  refine congrArg (queries m c) ?_
  funext a
  refine Fin.ext ?_
  match a with
  | ⟨0, _⟩ => blk_simp [idx t]; rfl
  | ⟨1, _⟩ => blk_simp [idx t]
  | ⟨2, _⟩ => blk_simp [idx t]

/-- The kernel's keys. -/
def keys : FVec Ideal S8x2048x1024 .f32 := fun y =>
  projected (fun k => m ((c : Thread nD τ).loc main_arg0) (ix3 (y 0) (y 1) k)) (fun k => m ((c : Thread nD τ).loc main_arg1) (ix1 k))
    (fun k => m ((c : Thread nD τ).loc main_arg2) (ix2 (y 0) k)) (fun k => m ((c : Thread nD τ).loc main_arg3) (ix2 (y 0) k))
    (fun k => m ((c : Thread nD τ).loc main_arg4) (ix2 k (col 1024 (by decide) (y 2)))) + m ((c : Thread nD τ).loc main_arg6) (ix1 (y 2))

/-- What a point leaves in its window of the keys. -/
theorem written11 (t : Fin cfg0.N) (b : Fin 8) (l : Fin 2048) (r : Fin 256) (j : Fin 1024) (hb : t.val / 8 = b) (hl : t.val % 8 * 256 + r.val = l) :
    out0_11 (iblk m c 0 t) (iblk m c 1 t) (iblk m c 2 t) (iblk m c 3 t) (iblk m c 4 t) (iblk m c 5 t) (iblk m c 6 t) (iblk m c 7 t) (iblk m c 8 t) (iblk m c 9 t) (ix3 0 r j) = keys m c (ix3 b l j) := by
  unfold out0_11 k0_pay6
  frame_out
  rw [store11_apply]
  simp only [blk_x m c t b l r _ hb hl, blk_g, blk_shift m c t b _ hb, blk_scale m c t b _ hb, blk_w11, blk_b11]
  rfl

theorem keys_eq : (dats m 0 c).arrAt 11 cfg0.N = keys m c := by
  refine (dats m 0 c).arrAt_eq_of_covers 11 _ (by decide +kernel) fun t _ y => ?_
  blk_simp [idx t]
  rw [after0_11]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written11 m c t ⟨t.val / 8, by omega⟩ ⟨t.val % 8 * 256 + r.val, by omega⟩ r j rfl rfl).trans ?_
  refine congrArg (keys m c) ?_
  funext a
  refine Fin.ext ?_
  match a with
  | ⟨0, _⟩ => blk_simp [idx t]; rfl
  | ⟨1, _⟩ => blk_simp [idx t]
  | ⟨2, _⟩ => blk_simp [idx t]

/-- The kernel's values. -/
def values : FVec Ideal S8x2048x1024 .f32 := fun y =>
  projected (fun k => m ((c : Thread nD τ).loc main_arg0) (ix3 (y 0) (y 1) k)) (fun k => m ((c : Thread nD τ).loc main_arg1) (ix1 k))
    (fun k => m ((c : Thread nD τ).loc main_arg2) (ix2 (y 0) k)) (fun k => m ((c : Thread nD τ).loc main_arg3) (ix2 (y 0) k))
    (fun k => m ((c : Thread nD τ).loc main_arg4) (ix2 k (col 2048 (by decide) (y 2))))

/-- What a point leaves in its window of the values. -/
theorem written12 (t : Fin cfg0.N) (b : Fin 8) (l : Fin 2048) (r : Fin 256) (j : Fin 1024) (hb : t.val / 8 = b) (hl : t.val % 8 * 256 + r.val = l) :
    out0_12 (iblk m c 0 t) (iblk m c 1 t) (iblk m c 2 t) (iblk m c 3 t) (iblk m c 4 t) (iblk m c 5 t) (iblk m c 6 t) (iblk m c 7 t) (iblk m c 8 t) (iblk m c 9 t) (ix3 0 r j) = values m c (ix3 b l j) := by
  unfold out0_12 k0_pay6
  frame_out
  rw [store12_apply]
  simp only [blk_x m c t b l r _ hb hl, blk_g, blk_shift m c t b _ hb, blk_scale m c t b _ hb, blk_w12, blk_b12, add_zero]
  rfl

theorem values_eq : (dats m 0 c).arrAt 12 cfg0.N = values m c := by
  refine (dats m 0 c).arrAt_eq_of_covers 12 _ (by decide +kernel) fun t _ y => ?_
  blk_simp [idx t]
  rw [after0_12]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written12 m c t ⟨t.val / 8, by omega⟩ ⟨t.val % 8 * 256 + r.val, by omega⟩ r j rfl rfl).trans ?_
  refine congrArg (values m c) ?_
  funext a
  refine Fin.ext ?_
  match a with
  | ⟨0, _⟩ => blk_simp [idx t]; rfl
  | ⟨1, _⟩ => blk_simp [idx t]
  | ⟨2, _⟩ => blk_simp [idx t]

end Cert.Proof.Qkv

end
-- ==== Proof.QkvEq.lean ====
module

public import proofs.«01_k».proof.Defs
public import proofs.«01_k».proof.Proof.QkvOut
public import proofs.«01_k».proof.Proof.Gen.Kernel3Ideal.Value
public import proofs.«01_k».proof.Proof.Gen.Reference3Ideal.Run
public import Idealize.ShloMosaic.Lib.Pointwise
public import Idealize.ShloMosaic.Lib.Quiescent

/-!
# The projection to queries, keys and values equals its reference
-/

@[expose] public section

set_option maxRecDepth 16384

noncomputable section

namespace Cert.Proof.QkvEq

open Idealize.ShloMosaic Idealize.SL.Sem Cert.Proof.Proj

/-- `Cert.quiescent_Reference3Ideal`: the reference ends with its arguments unchanged. -/
theorem frame_ref : Cert.quiescent_Reference3Ideal (hReference3Ideal := Cert.Reference3Ideal.Gen.facts) := fun m ρ _ =>
  (θ_run _ _ _).mono (fun r h => ⟨fun c => (h c).2.2.2, sem_eq_zero_of_no_sems (by decide) r.2⟩)
    (Cert.Reference3Ideal.Value.run (F := Ideal) m ρ)

/-- `Cert.algebraic_Kernel3Ideal_Reference3Ideal`: the two programs end with equal results. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Qkv.queries m c, fun c => Qkv.keys m c, fun c => Qkv.values m c, ?_, ?_⟩
  · exact (θ_run _ _ _).mono (fun _ h c => ⟨(h c).1.trans (Qkv.queries_eq m c), (h c).2.1.trans (Qkv.keys_eq m c), (h c).2.2.1.trans (Qkv.values_eq m c), (h c).2.2.2⟩)
      (Cert.Kernel3Ideal.Value.run_blocks m ρ)
  · refine (θ_run _ _ _).mono (fun _ h c => ⟨(h c).1.trans ?_, (h c).2.1.trans ?_, (h c).2.2.1.trans ?_, (h c).2.2.2⟩)
      (Cert.Reference3Ideal.Value.run (F := Ideal) m' ρ')
    · obtain ⟨a0, a1, a2, a3, a4, a5, _⟩ := hagree c
      funext i
      obtain ⟨b, l, j, rfl⟩ : ∃ (b : Fin 8) (l : Fin 2048) (j : Fin 1024), i = ix3 b l j :=
        ⟨i 0, i 1, i 2, funext fun a => by match a with | ⟨0, _⟩ => rfl | ⟨1, _⟩ => rfl | ⟨2, _⟩ => rfl⟩
      rw [a0, a1, a2, a3, a4, a5]
      pointwise []
      rfl
    · obtain ⟨a0, a1, a2, a3, a4, _, a6⟩ := hagree c
      funext i
      obtain ⟨b, l, j, rfl⟩ : ∃ (b : Fin 8) (l : Fin 2048) (j : Fin 1024), i = ix3 b l j :=
        ⟨i 0, i 1, i 2, funext fun a => by match a with | ⟨0, _⟩ => rfl | ⟨1, _⟩ => rfl | ⟨2, _⟩ => rfl⟩
      rw [a0, a1, a2, a3, a4, a6]
      pointwise []
      rfl
    · obtain ⟨a0, a1, a2, a3, a4, _, _⟩ := hagree c
      funext i
      obtain ⟨b, l, j, rfl⟩ : ∃ (b : Fin 8) (l : Fin 2048) (j : Fin 1024), i = ix3 b l j :=
        ⟨i 0, i 1, i 2, funext fun a => by match a with | ⟨0, _⟩ => rfl | ⟨1, _⟩ => rfl | ⟨2, _⟩ => rfl⟩
      rw [a0, a1, a2, a3, a4]
      pointwise []
      rfl

end Cert.Proof.QkvEq

end
-- ==== Proof.InOut.lean ====
module

public import proofs.«01_k».proof.Proof.ProjSpec
public import proofs.«01_k».proof.Proof.Gen.Kernel4Ideal.Value
public import Idealize.ShloMosaic.Lib.Pipeline.ValueKit
public import Idealize.ShloMosaic.Lib.StableHlo.ReadAt

/-!
# What the combined input projection leaves in its results
-/

@[expose] public section

set_option maxRecDepth 16384

noncomputable section

namespace Cert.Proof.In

open Idealize.ShloMosaic Idealize.ShloMosaic.TcCoe Cert.Kernel4Ideal Cert.Kernel4Ideal.Gen Cert.Proof.Proj

/-- The body's modulated rows, -/
theorem rows_apply (x : Vec Ideal S1x256x1024 .f32) (g : Vec Ideal S1x1024 .f32) (sh sc : Vec Ideal S1x1x1024 .f32) (r : Fin 256) (d : Fin 1024) :
    k0_pay3 x g sh sc (ix2 r d) = modulated (fun k => x (ix3 0 r k)) (fun k => g (ix2 0 k)) (fun k => sh (ix3 0 0 k)) (fun k => sc (ix3 0 0 k)) d := by
  pointwise [k0_pay3]
  rfl

/-- and what it stores of them: the products and the added row. -/
theorem store8_apply (x : Vec Ideal S1x256x1024 .f32) (g : Vec Ideal S1x1024 .f32) (sh sc : Vec Ideal S1x1x1024 .f32) (w : Vec Ideal S1024x2048 .bf16) (b : Vec Ideal S1x2048 .f32)
    (r : Fin 256) (j : Fin 2048) : k0_pay1 (k0_pay4 x g sh sc w b) (ix3 0 r j)
      = projected (fun k => x (ix3 0 r k)) (fun k => g (ix2 0 k)) (fun k => sh (ix3 0 0 k)) (fun k => sc (ix3 0 0 k)) (fun k => w (ix2 k j)) + b (ix2 0 j) := by
  pointwise [k0_pay1, k0_pay4]
  simp only [rows_apply]
  rfl

theorem store9_apply (x : Vec Ideal S1x256x1024 .f32) (g : Vec Ideal S1x1024 .f32) (sh sc : Vec Ideal S1x1x1024 .f32) (w : Vec Ideal S1024x1792 .bf16) (b : Vec Ideal S1x1792 .f32)
    (r : Fin 256) (j : Fin 1792) : k0_pay2 (k0_pay3 x g sh sc) w b (ix3 0 r j)
      = projected (fun k => x (ix3 0 r k)) (fun k => g (ix2 0 k)) (fun k => sh (ix3 0 0 k)) (fun k => sc (ix3 0 0 k)) (fun k => w (ix2 k j)) + b (ix2 0 j) := by
  pointwise [k0_pay2]
  simp only [rows_apply]
  rfl

variable (m : (ℓ : Loc nD τ sig) → Buf (Elt Ideal) ℓ) (c : Dev nD)

/-- Which block each window reads or writes at point `t`: batch row `t / 8`, tile `t % 8` of its tokens. -/
theorem idx : ∀ t : Fin cfg0.N, win0_0.index t = ![t.val / 8, t.val % 8, 0] ∧ win0_1.index t = ![0, 0] ∧ win0_2.index t = ![t.val / 8, 0, 0] ∧ win0_3.index t = ![t.val / 8, 0, 0]
    ∧ win0_4.index t = ![0, 0] ∧ win0_5.index t = ![0, 0] ∧ win0_6.index t = ![0, 0] ∧ win0_7.index t = ![0, 0] ∧ win0_8.index t = ![t.val / 8, t.val % 8, 0] ∧ win0_9.index t = ![t.val / 8, t.val % 8, 0] :=
  (by decide +kernel : ∀ t : Fin grid0.N, _)

/-! ## The arrays that the host hands over -/

theorem V_g (k : Fin 1024) : V m c main_v7 (ix2 0 k) = m ((c : Thread nD τ).loc main_arg1) (ix1 k) := by
  unfold V
  after_reads_at

theorem V_shift (b : Fin 8) (k : Fin 1024) : V m c main_v3 (ix3 b 0 k) = m ((c : Thread nD τ).loc main_arg2) (ix2 b k) := by
  unfold V
  after_reads_at

theorem V_scale (b : Fin 8) (k : Fin 1024) : V m c main_v4 (ix3 b 0 k) = m ((c : Thread nD τ).loc main_arg3) (ix2 b k) := by
  unfold V
  after_reads_at

theorem V_w8 (k : Fin 1024) (j : Fin 2048) : V m c main_v5 (ix2 k j) = m ((c : Thread nD τ).loc main_arg4) (ix2 k (Fin.castLE (by decide) j)) := by
  unfold V
  after_reads_at
  rfl

theorem V_b8 (j : Fin 2048) : V m c main_v1 (ix2 0 j) = (0 : EReal) := by
  unfold V
  after_reads_at

theorem V_w9 (k : Fin 1024) (j : Fin 1792) : V m c main_v6 (ix2 k j) = m ((c : Thread nD τ).loc main_arg4) (ix2 k (col 2048 (by decide) j)) := by
  unfold V
  after_reads_at
  rfl

theorem V_b9 (j : Fin 1792) : V m c main_v2 (ix2 0 j) = (0 : EReal) := by
  unfold V
  after_reads_at

/-! ## What a point reads -/

section blocks

variable (t : Fin cfg0.N) (b : Fin 8) (l : Fin 2048) (r : Fin 256) (k : Fin 1024)

theorem blk_x (hb : t.val / 8 = b) (hl : t.val % 8 * 256 + r.val = l) : iblk m c 0 t (ix3 0 r k) = m ((c : Thread nD τ).loc main_arg0) (ix3 b l k) := by
  blk_ext [iblk, V, idx t]

theorem blk_g : iblk m c 1 t (ix2 0 k) = m ((c : Thread nD τ).loc main_arg1) (ix1 k) := by
  rw [← V_g m]
  blk_ext [iblk, idx t]

theorem blk_shift (hb : t.val / 8 = b) : iblk m c 2 t (ix3 0 0 k) = m ((c : Thread nD τ).loc main_arg2) (ix2 b k) := by
  rw [← V_shift m]
  blk_ext [iblk, idx t]

theorem blk_scale (hb : t.val / 8 = b) : iblk m c 3 t (ix3 0 0 k) = m ((c : Thread nD τ).loc main_arg3) (ix2 b k) := by
  rw [← V_scale m]
  blk_ext [iblk, idx t]

theorem blk_w8 (j : Fin 2048) : iblk m c 4 t (ix2 k j) = m ((c : Thread nD τ).loc main_arg4) (ix2 k (Fin.castLE (by decide) j)) := by
  rw [← V_w8 m]
  blk_ext [iblk, idx t]

theorem blk_b8 (j : Fin 2048) : iblk m c 6 t (ix2 0 j) = (0 : EReal) := by
  rw [← V_b8 m c j]
  blk_ext [iblk, idx t]

theorem blk_w9 (j : Fin 1792) : iblk m c 5 t (ix2 k j) = m ((c : Thread nD τ).loc main_arg4) (ix2 k (col 2048 (by decide) j)) := by
  rw [← V_w9 m]
  blk_ext [iblk, idx t]

theorem blk_b9 (j : Fin 1792) : iblk m c 7 t (ix2 0 j) = (0 : EReal) := by
  rw [← V_b9 m c j]
  blk_ext [iblk, idx t]

end blocks

/-! ## The results -/

/-- The kernel's retention. -/
def retention : FVec Ideal S8x2048x2048 .f32 := fun y =>
  projected (fun k => m ((c : Thread nD τ).loc main_arg0) (ix3 (y 0) (y 1) k)) (fun k => m ((c : Thread nD τ).loc main_arg1) (ix1 k))
    (fun k => m ((c : Thread nD τ).loc main_arg2) (ix2 (y 0) k)) (fun k => m ((c : Thread nD τ).loc main_arg3) (ix2 (y 0) k))
    (fun k => m ((c : Thread nD τ).loc main_arg4) (ix2 k (Fin.castLE (by decide) (y 2))))

/-- What a point leaves in its window of the retention. -/
theorem written8 (t : Fin cfg0.N) (b : Fin 8) (l : Fin 2048) (r : Fin 256) (j : Fin 2048) (hb : t.val / 8 = b) (hl : t.val % 8 * 256 + r.val = l) :
    out0_8 (iblk m c 0 t) (iblk m c 1 t) (iblk m c 2 t) (iblk m c 3 t) (iblk m c 4 t) (iblk m c 5 t) (iblk m c 6 t) (iblk m c 7 t) (ix3 0 r j) = retention m c (ix3 b l j) := by
  frame_out
  rw [store8_apply]
  simp only [blk_x m c t b l r _ hb hl, blk_g, blk_shift m c t b _ hb, blk_scale m c t b _ hb, blk_w8, blk_b8, add_zero]
  rfl

theorem retention_eq : (dats m 0 c).arrAt 8 cfg0.N = retention m c := by
  refine (dats m 0 c).arrAt_eq_of_covers 8 _ (by decide +kernel) fun t _ y => ?_
  blk_simp [idx t]
  rw [after0_8]
  obtain ⟨r, j, rfl⟩ : ∃ (r : Fin 256) (j : Fin 2048), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written8 m c t ⟨t.val / 8, by omega⟩ ⟨t.val % 8 * 256 + r.val, by omega⟩ r j rfl rfl).trans ?_
  refine congrArg (retention m c) ?_
  funext a
  refine Fin.ext ?_
  match a with
  | ⟨0, _⟩ => blk_simp [idx t]; rfl
  | ⟨1, _⟩ => blk_simp [idx t]
  | ⟨2, _⟩ => blk_simp [idx t]

/-- The kernel's mixing. -/
def mixing : FVec Ideal S8x2048x1792 .f32 := fun y =>
  projected (fun k => m ((c : Thread nD τ).loc main_arg0) (ix3 (y 0) (y 1) k)) (fun k => m ((c : Thread nD τ).loc main_arg1) (ix1 k))
    (fun k => m ((c : Thread nD τ).loc main_arg2) (ix2 (y 0) k)) (fun k => m ((c : Thread nD τ).loc main_arg3) (ix2 (y 0) k))
    (fun k => m ((c : Thread nD τ).loc main_arg4) (ix2 k (col 2048 (by decide) (y 2))))

/-- What a point leaves in its window of the mixing. -/
theorem written9 (t : Fin cfg0.N) (b : Fin 8) (l : Fin 2048) (r : Fin 256) (j : Fin 1792) (hb : t.val / 8 = b) (hl : t.val % 8 * 256 + r.val = l) :
    out0_9 (iblk m c 0 t) (iblk m c 1 t) (iblk m c 2 t) (iblk m c 3 t) (iblk m c 4 t) (iblk m c 5 t) (iblk m c 6 t) (iblk m c 7 t) (ix3 0 r j) = mixing m c (ix3 b l j) := by
  frame_out
  rw [store9_apply]
  simp only [blk_x m c t b l r _ hb hl, blk_g, blk_shift m c t b _ hb, blk_scale m c t b _ hb, blk_w9, blk_b9, add_zero]
  rfl

theorem mixing_eq : (dats m 0 c).arrAt 9 cfg0.N = mixing m c := by
  refine (dats m 0 c).arrAt_eq_of_covers 9 _ (by decide +kernel) fun t _ y => ?_
  blk_simp [idx t]
  rw [after0_9]
  obtain ⟨r, j, rfl⟩ : ∃ (r : Fin 256) (j : Fin 1792), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written9 m c t ⟨t.val / 8, by omega⟩ ⟨t.val % 8 * 256 + r.val, by omega⟩ r j rfl rfl).trans ?_
  refine congrArg (mixing m c) ?_
  funext a
  refine Fin.ext ?_
  match a with
  | ⟨0, _⟩ => blk_simp [idx t]; rfl
  | ⟨1, _⟩ => blk_simp [idx t]
  | ⟨2, _⟩ => blk_simp [idx t]

end Cert.Proof.In

end
-- ==== Proof.InEq.lean ====
module

public import proofs.«01_k».proof.Defs
public import proofs.«01_k».proof.Proof.InOut
public import proofs.«01_k».proof.Proof.Gen.Kernel4Ideal.Value
public import proofs.«01_k».proof.Proof.Gen.Reference4Ideal.Run
public import Idealize.ShloMosaic.Lib.Pointwise
public import Idealize.ShloMosaic.Lib.Quiescent

/-!
# The combined input projection equals its reference
-/

@[expose] public section

set_option maxRecDepth 16384

noncomputable section

namespace Cert.Proof.InEq

open Idealize.ShloMosaic Idealize.SL.Sem Cert.Proof.Proj

/-- `Cert.quiescent_Reference4Ideal`: the reference ends with its arguments unchanged. -/
theorem frame_ref : Cert.quiescent_Reference4Ideal (hReference4Ideal := Cert.Reference4Ideal.Gen.facts) := fun m ρ _ =>
  (θ_run _ _ _).mono (fun r h => ⟨fun c => (h c).2.2, sem_eq_zero_of_no_sems (by decide) r.2⟩)
    (Cert.Reference4Ideal.Value.run (F := Ideal) m ρ)

/-- `Cert.algebraic_Kernel4Ideal_Reference4Ideal`: the two programs end with equal results. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => In.retention m c, fun c => In.mixing m c, ?_, ?_⟩
  · exact (θ_run _ _ _).mono (fun _ h c => ⟨(h c).1.trans (In.retention_eq m c), (h c).2.1.trans (In.mixing_eq m c), (h c).2.2⟩)
      (Cert.Kernel4Ideal.Value.run_blocks m ρ)
  · refine (θ_run _ _ _).mono (fun _ h c => ⟨(h c).1.trans ?_, (h c).2.1.trans ?_, (h c).2.2⟩)
      (Cert.Reference4Ideal.Value.run (F := Ideal) m' ρ')
    · obtain ⟨a0, a1, a2, a3, a4⟩ := hagree c
      funext i
      obtain ⟨b, l, j, rfl⟩ : ∃ (b : Fin 8) (l : Fin 2048) (j : Fin 2048), i = ix3 b l j :=
        ⟨i 0, i 1, i 2, funext fun a => by match a with | ⟨0, _⟩ => rfl | ⟨1, _⟩ => rfl | ⟨2, _⟩ => rfl⟩
      rw [a0, a1, a2, a3, a4]
      pointwise []
      rfl
    · obtain ⟨a0, a1, a2, a3, a4⟩ := hagree c
      funext i
      obtain ⟨b, l, j, rfl⟩ : ∃ (b : Fin 8) (l : Fin 2048) (j : Fin 1792), i = ix3 b l j :=
        ⟨i 0, i 1, i 2, funext fun a => by match a with | ⟨0, _⟩ => rfl | ⟨1, _⟩ => rfl | ⟨2, _⟩ => rfl⟩
      rw [a0, a1, a2, a3, a4]
      pointwise []
      rfl

end Cert.Proof.InEq

end
-- ==== Proof.OutOut.lean ====
module

public import proofs.«01_k».proof.Proof.Gen.Kernel5Ideal.Value
public import Idealize.ShloMosaic.Lib.Pipeline.ValueKit
public import Idealize.ShloMosaic.Lib.StableHlo.ReadAt

/-!
# What the output projection leaves in its result
-/

@[expose] public section

set_option maxRecDepth 16384

noncomputable section

namespace Cert.Proof.Out

open Idealize.ShloMosaic Idealize.ShloMosaic.TcCoe Cert.Kernel5Ideal Cert.Kernel5Ideal.Gen

/-- Row `512 + k` of the projection, which the second half of the lanes meets. -/
def low (k : Fin 512) : Fin 1024 := ⟨512 + k.val, by omega⟩

/-- An entry `x` plus the gate `g` times the products of the two halves of the lanes. -/
def gated (x g : EReal) (oa ob wa wb : Fin 512 → EReal) : EReal := x + g * ((∑ k, oa k * wa k) + ∑ k, ob k * wb k)

/-- What the body stores: the token row plus the gate times both halves' products. -/
theorem store_apply (oa ob : Vec Ideal S1x256x512 .f32) (wa wb : Vec Ideal S512x1024 .bf16) (x : Vec Ideal S1x256x1024 .f32) (g : Vec Ideal S1x1x1024 .f32)
    (r : Fin 256) (j : Fin 1024) : k0_pay1 oa wa ob wb x g (ix3 0 r j)
      = x (ix3 0 r j) + g (ix3 0 0 j) * ((∑ k, oa (ix3 0 r k) * wa (ix2 k j)) + ∑ k, ob (ix3 0 r k) * wb (ix2 k j)) := by
  pointwise [k0_pay1]

variable (m : (ℓ : Loc nD τ sig) → Buf (Elt Ideal) ℓ) (c : Dev nD)

/-- Which block each window reads or writes at point `t`: batch row `t / 8`, tile `t % 8` of its tokens. -/
theorem idx : ∀ t : Fin cfg0.N, win0_0.index t = ![t.val / 8, t.val % 8, 0] ∧ win0_1.index t = ![t.val / 8, 0, 0]
    ∧ win0_2.index t = ![t.val / 8, t.val % 8, 0] ∧ win0_3.index t = ![t.val / 8, t.val % 8, 0]
    ∧ win0_4.index t = ![0, 0] ∧ win0_5.index t = ![0, 0] ∧ win0_6.index t = ![t.val / 8, t.val % 8, 0] :=
  (by decide +kernel : ∀ t : Fin grid0.N, _)

/-! ## The arrays that the host hands over -/

theorem V_gate (b : Fin 8) (k : Fin 1024) : V m c main_v1 (ix3 b 0 k) = m ((c : Thread nD τ).loc main_arg1) (ix2 b k) := by
  unfold V
  after_reads_at

theorem V_wa (k : Fin 512) (j : Fin 1024) : V m c main_v2 (ix2 k j) = m ((c : Thread nD τ).loc main_arg4) (ix2 (Fin.castLE (by decide) k) j) := by
  unfold V
  after_reads_at
  rfl

theorem V_wb (k : Fin 512) (j : Fin 1024) : V m c main_v3 (ix2 k j) = m ((c : Thread nD τ).loc main_arg4) (ix2 (low k) j) := by
  unfold V
  after_reads_at
  rfl

/-! ## What a point reads -/

section blocks

variable (t : Fin cfg0.N) (b : Fin 8) (l : Fin 2048) (r : Fin 256) (k : Fin 512) (j : Fin 1024)

theorem blk_x (hb : t.val / 8 = b) (hl : t.val % 8 * 256 + r.val = l) : iblk m c 0 t (ix3 0 r j) = m ((c : Thread nD τ).loc main_arg0) (ix3 b l j) := by
  blk_ext [iblk, V, idx t]

theorem blk_gate (hb : t.val / 8 = b) : iblk m c 1 t (ix3 0 0 j) = m ((c : Thread nD τ).loc main_arg1) (ix2 b j) := by
  rw [← V_gate m]
  blk_ext [iblk, idx t]

theorem blk_oa (hb : t.val / 8 = b) (hl : t.val % 8 * 256 + r.val = l) : iblk m c 2 t (ix3 0 r k) = m ((c : Thread nD τ).loc main_arg2) (ix3 b l k) := by
  blk_ext [iblk, V, idx t]

theorem blk_ob (hb : t.val / 8 = b) (hl : t.val % 8 * 256 + r.val = l) : iblk m c 3 t (ix3 0 r k) = m ((c : Thread nD τ).loc main_arg3) (ix3 b l k) := by
  blk_ext [iblk, V, idx t]

theorem blk_wa : iblk m c 4 t (ix2 k j) = m ((c : Thread nD τ).loc main_arg4) (ix2 (Fin.castLE (by decide) k) j) := by
  rw [← V_wa m]
  blk_ext [iblk, idx t]

theorem blk_wb : iblk m c 5 t (ix2 k j) = m ((c : Thread nD τ).loc main_arg4) (ix2 (low k) j) := by
  rw [← V_wb m]
  blk_ext [iblk, idx t]

end blocks

/-! ## The result -/

/-- The kernel's rows: the token row plus the gate times the two halves' products. -/
def outputs : FVec Ideal S8x2048x1024 .f32 := fun y =>
  gated (m ((c : Thread nD τ).loc main_arg0) (ix3 (y 0) (y 1) (y 2))) (m ((c : Thread nD τ).loc main_arg1) (ix2 (y 0) (y 2)))
    (fun k => m ((c : Thread nD τ).loc main_arg2) (ix3 (y 0) (y 1) k)) (fun k => m ((c : Thread nD τ).loc main_arg3) (ix3 (y 0) (y 1) k))
    (fun k => m ((c : Thread nD τ).loc main_arg4) (ix2 (Fin.castLE (by decide) k) (y 2))) (fun k => m ((c : Thread nD τ).loc main_arg4) (ix2 (low k) (y 2)))

/-- What a point leaves in its window of the result. -/
theorem written (t : Fin cfg0.N) (b : Fin 8) (l : Fin 2048) (r : Fin 256) (j : Fin 1024) (hb : t.val / 8 = b) (hl : t.val % 8 * 256 + r.val = l) :
    out0_6 (iblk m c 0 t) (iblk m c 1 t) (iblk m c 2 t) (iblk m c 3 t) (iblk m c 4 t) (iblk m c 5 t) (ix3 0 r j) = outputs m c (ix3 b l j) := by
  frame_out
  rw [store_apply]
  simp only [blk_x m c t b l r _ hb hl, blk_gate m c t b _ hb, blk_oa m c t b l r _ hb hl, blk_ob m c t b l r _ hb hl, blk_wa, blk_wb]
  rfl

theorem outputs_eq : (dats m 0 c).arrAt 6 cfg0.N = outputs m c := by
  refine (dats m 0 c).arrAt_eq_of_covers 6 _ (by decide +kernel) fun t _ y => ?_
  blk_simp [idx t]
  rw [after0_6]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written m c t ⟨t.val / 8, by omega⟩ ⟨t.val % 8 * 256 + r.val, by omega⟩ r j rfl rfl).trans ?_
  refine congrArg (outputs m c) ?_
  funext a
  refine Fin.ext ?_
  match a with
  | ⟨0, _⟩ => blk_simp [idx t]; rfl
  | ⟨1, _⟩ => blk_simp [idx t]
  | ⟨2, _⟩ => blk_simp [idx t]

end Cert.Proof.Out

end
-- ==== Proof.OutEq.lean ====
module

public import proofs.«01_k».proof.Defs
public import proofs.«01_k».proof.Proof.OutOut
public import proofs.«01_k».proof.Proof.Gen.Kernel5Ideal.Value
public import proofs.«01_k».proof.Proof.Gen.Reference5Ideal.Run
public import Idealize.ShloMosaic.Lib.Pointwise
public import Idealize.ShloMosaic.Lib.Quiescent

/-!
# The output projection equals its reference
-/

@[expose] public section

set_option maxRecDepth 16384

noncomputable section

namespace Cert.Proof.OutEq

open Idealize.ShloMosaic Idealize.SL.Sem

/-- `Cert.quiescent_Reference5Ideal`: the reference ends with its arguments unchanged. -/
theorem frame_ref : Cert.quiescent_Reference5Ideal (hReference5Ideal := Cert.Reference5Ideal.Gen.facts) := fun m ρ _ =>
  (θ_run _ _ _).mono (fun r h => ⟨fun c => (h c).2, sem_eq_zero_of_no_sems (by decide) r.2⟩)
    (Cert.Reference5Ideal.Value.run (F := Ideal) m ρ)

/-- `Cert.algebraic_Kernel5Ideal_Reference5Ideal`: the two programs end with equal results. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Out.outputs m c, ?_, ?_⟩
  · exact (θ_run _ _ _).mono (fun _ h c => ⟨(h c).1.trans (Out.outputs_eq m c), (h c).2⟩)
      (Cert.Kernel5Ideal.Value.run_blocks m ρ)
  · refine (θ_run _ _ _).mono (fun _ h c => ⟨(h c).1.trans ?_, (h c).2⟩)
      (Cert.Reference5Ideal.Value.run (F := Ideal) m' ρ')
    obtain ⟨a0, a1, a2, a3, a4⟩ := hagree c
    funext i
    obtain ⟨b, l, j, rfl⟩ : ∃ (b : Fin 8) (l : Fin 2048) (j : Fin 1024), i = ix3 b l j :=
      ⟨i 0, i 1, i 2, funext fun a => by match a with | ⟨0, _⟩ => rfl | ⟨1, _⟩ => rfl | ⟨2, _⟩ => rfl⟩
    rw [a0, a1, a2, a3, a4]
    pointwise []
    rfl

end Cert.Proof.OutEq

end
-- ==== Proof.OutOddOut.lean ====
module

public import proofs.«01_k».proof.Proof.Gen.Kernel6Ideal.Value
public import Idealize.ShloMosaic.Lib.Pipeline.ValueKit
public import Idealize.ShloMosaic.Lib.StableHlo.ReadAt

/-!
# What the odd layer's output projection leaves in its result
-/

@[expose] public section

set_option maxRecDepth 16384

noncomputable section

namespace Cert.Proof.OutOdd

open Idealize.ShloMosaic Idealize.ShloMosaic.TcCoe Cert.Kernel6Ideal Cert.Kernel6Ideal.Gen

/-- An entry `x` plus the gate `g` times the product of the lanes. -/
def gated (x g : EReal) (o w : Fin 1024 → EReal) : EReal := x + g * ∑ k, o k * w k

/-- What the body stores: the token row plus the gate times the product. -/
theorem store_apply (o : Vec Ideal S1x256x1024 .f32) (w : Vec Ideal S1024x1024 .bf16) (x : Vec Ideal S1x256x1024 .f32) (g : Vec Ideal S1x1x1024 .f32)
    (r : Fin 256) (j : Fin 1024) : k0_pay1 o w x g (ix3 0 r j)
      = x (ix3 0 r j) + g (ix3 0 0 j) * ∑ k, o (ix3 0 r k) * w (ix2 k j) := by
  pointwise [k0_pay1]

variable (m : (ℓ : Loc nD τ sig) → Buf (Elt Ideal) ℓ) (c : Dev nD)

/-- Which block each window reads or writes at point `t`: batch row `t / 8`, tile `t % 8` of its tokens. -/
theorem idx : ∀ t : Fin cfg0.N, win0_0.index t = ![t.val / 8, t.val % 8, 0] ∧ win0_1.index t = ![t.val / 8, 0, 0]
    ∧ win0_2.index t = ![t.val / 8, t.val % 8, 0] ∧ win0_3.index t = ![0, 0] ∧ win0_4.index t = ![t.val / 8, t.val % 8, 0] :=
  (by decide +kernel : ∀ t : Fin grid0.N, _)

/-! ## The arrays that the host hands over -/

theorem V_gate (b : Fin 8) (k : Fin 1024) : V m c main_v0 (ix3 b 0 k) = m ((c : Thread nD τ).loc main_arg1) (ix2 b k) := by
  unfold V
  after_reads_at

/-! ## What a point reads -/

section blocks

variable (t : Fin cfg0.N) (b : Fin 8) (l : Fin 2048) (r : Fin 256) (k j : Fin 1024)

theorem blk_x (hb : t.val / 8 = b) (hl : t.val % 8 * 256 + r.val = l) : iblk m c 0 t (ix3 0 r j) = m ((c : Thread nD τ).loc main_arg0) (ix3 b l j) := by
  blk_ext [iblk, V, idx t]

theorem blk_gate (hb : t.val / 8 = b) : iblk m c 1 t (ix3 0 0 j) = m ((c : Thread nD τ).loc main_arg1) (ix2 b j) := by
  rw [← V_gate m]
  blk_ext [iblk, idx t]

theorem blk_o (hb : t.val / 8 = b) (hl : t.val % 8 * 256 + r.val = l) : iblk m c 2 t (ix3 0 r k) = m ((c : Thread nD τ).loc main_arg2) (ix3 b l k) := by
  blk_ext [iblk, V, idx t]

theorem blk_w : iblk m c 3 t (ix2 k j) = m ((c : Thread nD τ).loc main_arg3) (ix2 k j) := by
  blk_ext [iblk, V, idx t]

end blocks

/-! ## The result -/

/-- The kernel's rows: the token row plus the gate times the product. -/
def outputs : FVec Ideal S8x2048x1024 .f32 := fun y =>
  gated (m ((c : Thread nD τ).loc main_arg0) (ix3 (y 0) (y 1) (y 2))) (m ((c : Thread nD τ).loc main_arg1) (ix2 (y 0) (y 2)))
    (fun k => m ((c : Thread nD τ).loc main_arg2) (ix3 (y 0) (y 1) k)) (fun k => m ((c : Thread nD τ).loc main_arg3) (ix2 k (y 2)))

/-- What a point leaves in its window of the result. -/
theorem written (t : Fin cfg0.N) (b : Fin 8) (l : Fin 2048) (r : Fin 256) (j : Fin 1024) (hb : t.val / 8 = b) (hl : t.val % 8 * 256 + r.val = l) :
    out0_4 (iblk m c 0 t) (iblk m c 1 t) (iblk m c 2 t) (iblk m c 3 t) (ix3 0 r j) = outputs m c (ix3 b l j) := by
  frame_out
  rw [store_apply]
  simp only [blk_x m c t b l r _ hb hl, blk_gate m c t b _ hb, blk_o m c t b l r _ hb hl, blk_w]
  rfl

theorem outputs_eq : (dats m 0 c).arrAt 4 cfg0.N = outputs m c := by
  refine (dats m 0 c).arrAt_eq_of_covers 4 _ (by decide +kernel) fun t _ y => ?_
  blk_simp [idx t]
  rw [after0_4]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  have hN : cfg0.grid.N = 64 := by decide
  have ht := t.isLt
  refine (written m c t ⟨t.val / 8, by omega⟩ ⟨t.val % 8 * 256 + r.val, by omega⟩ r j rfl rfl).trans ?_
  refine congrArg (outputs m c) ?_
  funext a
  refine Fin.ext ?_
  match a with
  | ⟨0, _⟩ => blk_simp [idx t]; rfl
  | ⟨1, _⟩ => blk_simp [idx t]
  | ⟨2, _⟩ => blk_simp [idx t]

end Cert.Proof.OutOdd

end
-- ==== Proof.OutOddEq.lean ====
module

public import proofs.«01_k».proof.Defs
public import proofs.«01_k».proof.Proof.OutOddOut
public import proofs.«01_k».proof.Proof.Gen.Kernel6Ideal.Value
public import proofs.«01_k».proof.Proof.Gen.Reference6Ideal.Run
public import Idealize.ShloMosaic.Lib.Pointwise
public import Idealize.ShloMosaic.Lib.Quiescent

/-!
# The odd layer's output projection equals its reference
-/

@[expose] public section

set_option maxRecDepth 16384

noncomputable section

namespace Cert.Proof.OutOddEq

open Idealize.ShloMosaic Idealize.SL.Sem

/-- `Cert.quiescent_Reference6Ideal`: the reference ends with its arguments unchanged. -/
theorem frame_ref : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- `Cert.algebraic_Kernel6Ideal_Reference6Ideal`: the two programs end with equal results. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => OutOdd.outputs m c, ?_, ?_⟩
  · exact (θ_run _ _ _).mono (fun _ h c => ⟨(h c).1.trans (OutOdd.outputs_eq m c), (h c).2⟩)
      (Cert.Kernel6Ideal.Value.run_blocks m ρ)
  · refine (θ_run _ _ _).mono (fun _ h c => ⟨(h c).1.trans ?_, (h c).2⟩)
      (Cert.Reference6Ideal.Value.run (F := Ideal) m' ρ')
    obtain ⟨a0, a1, a2, a3⟩ := hagree c
    funext i
    obtain ⟨b, l, j, rfl⟩ : ∃ (b : Fin 8) (l : Fin 2048) (j : Fin 1024), i = ix3 b l j :=
      ⟨i 0, i 1, i 2, funext fun a => by match a with | ⟨0, _⟩ => rfl | ⟨1, _⟩ => rfl | ⟨2, _⟩ => rfl⟩
    rw [a0, a1, a2, a3]
    pointwise []
    rfl

end Cert.Proof.OutOddEq

end
-- ==== Proof.QkvSOut.lean ====
module

public import proofs.«01_k».proof.Proof.ProjSpec
public import proofs.«01_k».proof.Proof.Gen.Kernel7Ideal.Value
public import Idealize.ShloMosaic.Lib.Pipeline.ValueKit
public import Idealize.ShloMosaic.Lib.StableHlo.ReadAt

/-!
# What the projection to queries, keys and values leaves in its results for the sample batch
-/

@[expose] public section

set_option maxRecDepth 16384

noncomputable section

namespace Cert.Proof.QkvS

open Idealize.ShloMosaic Idealize.ShloMosaic.TcCoe Cert.Kernel7Ideal Cert.Kernel7Ideal.Gen Cert.Proof.Proj

/-- The body's modulated rows, each with its own shift and scale, -/
theorem rows_apply (x : Vec Ideal S1x256x1024 .f32) (g : Vec Ideal S1x1024 .f32) (sh sc : Vec Ideal S1x256x1024 .f32) (r : Fin 256) (d : Fin 1024) :
    k0_pay3 x g sh sc (ix2 r d) = modulated (fun k => x (ix3 0 r k)) (fun k => g (ix2 0 k)) (fun k => sh (ix3 0 r k)) (fun k => sc (ix3 0 r k)) d := by
  pointwise [k0_pay3]
  rfl

/-- and what it stores of them: the products and the added row. -/
theorem store10_apply (x : Vec Ideal S1x256x1024 .f32) (g : Vec Ideal S1x1024 .f32) (sh sc : Vec Ideal S1x256x1024 .f32) (w : Vec Ideal S1024x1024 .bf16) (b : Vec Ideal S1x1024 .f32)
    (r : Fin 256) (j : Fin 1024) : k0_pay4 x g sh sc w b (ix3 0 r j)
      = projected (fun k => x (ix3 0 r k)) (fun k => g (ix2 0 k)) (fun k => sh (ix3 0 r k)) (fun k => sc (ix3 0 r k)) (fun k => w (ix2 k j)) + b (ix2 0 j) := by
  pointwise [k0_pay4]
  simp only [rows_apply]
  rfl

theorem store11_apply (x : Vec Ideal S1x256x1024 .f32) (g : Vec Ideal S1x1024 .f32) (sh sc : Vec Ideal S1x256x1024 .f32) (w : Vec Ideal S1024x1024 .bf16) (b : Vec Ideal S1x1024 .f32)
    (r : Fin 256) (j : Fin 1024) : k0_pay1 (k0_pay3 x g sh sc) w b (ix3 0 r j)
      = projected (fun k => x (ix3 0 r k)) (fun k => g (ix2 0 k)) (fun k => sh (ix3 0 r k)) (fun k => sc (ix3 0 r k)) (fun k => w (ix2 k j)) + b (ix2 0 j) := by
  pointwise [k0_pay1]
  simp only [rows_apply]
  rfl

theorem store12_apply (x : Vec Ideal S1x256x1024 .f32) (g : Vec Ideal S1x1024 .f32) (sh sc : Vec Ideal S1x256x1024 .f32) (w : Vec Ideal S1024x1024 .bf16) (b : Vec Ideal S1x1024 .f32)
    (r : Fin 256) (j : Fin 1024) : k0_pay2 (k0_pay3 x g sh sc) w b (ix3 0 r j)
      = projected (fun k => x (ix3 0 r k)) (fun k => g (ix2 0 k)) (fun k => sh (ix3 0 r k)) (fun k => sc (ix3 0 r k)) (fun k => w (ix2 k j)) + b (ix2 0 j) := by
  pointwise [k0_pay2]
  simp only [rows_apply]
  rfl

/-- The sequence of row `r` of the flattened batch, and its token. -/
def seqOf (r : Fin 256) : Fin 32 := ⟨r.val / 8, by omega⟩
def tokOf (r : Fin 256) : Fin 8 := ⟨r.val % 8, by omega⟩

variable (m : (ℓ : Loc nD τ sig) → Buf (Elt Ideal) ℓ) (c : Dev nD)

/-- The one point reads and writes whole arrays. -/
theorem idx : ∀ t : Fin cfg0.N, win0_0.index t = ![0, 0, 0] ∧ win0_1.index t = ![0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0, 0] ∧ win0_11.index t = ![0, 0, 0] ∧ win0_12.index t = ![0, 0, 0] :=
  (by decide +kernel : ∀ t : Fin grid0.N, _)

/-! ## The arrays that the host hands over -/

theorem V_x (r : Fin 256) (k : Fin 1024) : V m c main_v4 (ix3 0 r k) = m ((c : Thread nD τ).loc main_arg0) (ix3 (seqOf r) (tokOf r) k) := by
  unfold V
  after_reads_at
  rfl

theorem V_g (k : Fin 1024) : V m c main_v14 (ix2 0 k) = m ((c : Thread nD τ).loc main_arg1) (ix1 k) := by
  unfold V
  after_reads_at

theorem V_shift (r : Fin 256) (k : Fin 1024) : V m c main_v7 (ix3 0 r k) = m ((c : Thread nD τ).loc main_arg2) (ix2 (seqOf r) k) := by
  unfold V
  after_reads_at
  rfl

theorem V_scale (r : Fin 256) (k : Fin 1024) : V m c main_v10 (ix3 0 r k) = m ((c : Thread nD τ).loc main_arg3) (ix2 (seqOf r) k) := by
  unfold V
  after_reads_at
  rfl

theorem V_w10 (k : Fin 1024) (j : Fin 1024) : V m c main_v1 (ix2 k j) = m ((c : Thread nD τ).loc main_arg4) (ix2 k (Fin.castLE (by decide) j)) := by
  unfold V
  after_reads_at
  rfl

theorem V_b10 (j : Fin 1024) : V m c main_v11 (ix2 0 j) = m ((c : Thread nD τ).loc main_arg5) (ix1 j) := by
  unfold V
  after_reads_at

theorem V_w11 (k : Fin 1024) (j : Fin 1024) : V m c main_v2 (ix2 k j) = m ((c : Thread nD τ).loc main_arg4) (ix2 k (col 1024 (by decide) j)) := by
  unfold V
  after_reads_at
  rfl

theorem V_b11 (j : Fin 1024) : V m c main_v12 (ix2 0 j) = m ((c : Thread nD τ).loc main_arg6) (ix1 j) := by
  unfold V
  after_reads_at

theorem V_w12 (k : Fin 1024) (j : Fin 1024) : V m c main_v3 (ix2 k j) = m ((c : Thread nD τ).loc main_arg4) (ix2 k (col 2048 (by decide) j)) := by
  unfold V
  after_reads_at
  rfl

theorem V_b12 (j : Fin 1024) : V m c main_v13 (ix2 0 j) = (0 : EReal) := by
  unfold V
  after_reads_at

/-! ## What the point reads -/

section blocks

variable (t : Fin cfg0.N) (r : Fin 256) (k : Fin 1024)

theorem blk_x : iblk m c 0 t (ix3 0 r k) = m ((c : Thread nD τ).loc main_arg0) (ix3 (seqOf r) (tokOf r) k) := by
  rw [← V_x m]
  blk_ext [iblk, idx t]

theorem blk_g : iblk m c 1 t (ix2 0 k) = m ((c : Thread nD τ).loc main_arg1) (ix1 k) := by
  rw [← V_g m]
  blk_ext [iblk, idx t]

theorem blk_shift : iblk m c 2 t (ix3 0 r k) = m ((c : Thread nD τ).loc main_arg2) (ix2 (seqOf r) k) := by
  rw [← V_shift m]
  blk_ext [iblk, idx t]

theorem blk_scale : iblk m c 3 t (ix3 0 r k) = m ((c : Thread nD τ).loc main_arg3) (ix2 (seqOf r) k) := by
  rw [← V_scale m]
  blk_ext [iblk, idx t]

theorem blk_w10 (j : Fin 1024) : iblk m c 4 t (ix2 k j) = m ((c : Thread nD τ).loc main_arg4) (ix2 k (Fin.castLE (by decide) j)) := by
  rw [← V_w10 m]
  blk_ext [iblk, idx t]

theorem blk_b10 (j : Fin 1024) : iblk m c 7 t (ix2 0 j) = m ((c : Thread nD τ).loc main_arg5) (ix1 j) := by
  rw [← V_b10 m c j]
  blk_ext [iblk, idx t]

theorem blk_w11 (j : Fin 1024) : iblk m c 5 t (ix2 k j) = m ((c : Thread nD τ).loc main_arg4) (ix2 k (col 1024 (by decide) j)) := by
  rw [← V_w11 m]
  blk_ext [iblk, idx t]

theorem blk_b11 (j : Fin 1024) : iblk m c 8 t (ix2 0 j) = m ((c : Thread nD τ).loc main_arg6) (ix1 j) := by
  rw [← V_b11 m c j]
  blk_ext [iblk, idx t]

theorem blk_w12 (j : Fin 1024) : iblk m c 6 t (ix2 k j) = m ((c : Thread nD τ).loc main_arg4) (ix2 k (col 2048 (by decide) j)) := by
  rw [← V_w12 m]
  blk_ext [iblk, idx t]

theorem blk_b12 (j : Fin 1024) : iblk m c 9 t (ix2 0 j) = (0 : EReal) := by
  rw [← V_b12 m c j]
  blk_ext [iblk, idx t]

end blocks

/-! ## The results -/

/-- The kernel's queries, the batch's rows one after another. -/
def queries : FVec Ideal S1x256x1024 .f32 := fun y =>
  projected (fun k => m ((c : Thread nD τ).loc main_arg0) (ix3 (seqOf (y 1)) (tokOf (y 1)) k)) (fun k => m ((c : Thread nD τ).loc main_arg1) (ix1 k))
    (fun k => m ((c : Thread nD τ).loc main_arg2) (ix2 (seqOf (y 1)) k)) (fun k => m ((c : Thread nD τ).loc main_arg3) (ix2 (seqOf (y 1)) k))
    (fun k => m ((c : Thread nD τ).loc main_arg4) (ix2 k (Fin.castLE (by decide) (y 2)))) + m ((c : Thread nD τ).loc main_arg5) (ix1 (y 2))

/-- What the point leaves in its window of the queries. -/
theorem written10 (t : Fin cfg0.N) (r : Fin 256) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r j) = queries m c (ix3 0 r j) := by
  frame_out
  rw [store10_apply]
  simp only [blk_x, blk_g, blk_shift, blk_scale, blk_w10, blk_b10]
  rfl

theorem queries_eq : (dats m 0 c).arrAt 10 cfg0.N = queries m c := by
  refine (dats m 0 c).arrAt_eq_of_covers 10 _ (by decide +kernel) fun t _ y => ?_
  blk_simp [idx t]
  rw [after0_10]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  refine (written10 m c t r j).trans ?_
  refine congrArg (queries m c) ?_
  funext a
  refine Fin.ext ?_
  match a with
  | ⟨0, _⟩ => blk_simp [idx t]
  | ⟨1, _⟩ => blk_simp [idx t]
  | ⟨2, _⟩ => blk_simp [idx t]

/-- The kernel's keys, the batch's rows one after another. -/
def keys : FVec Ideal S1x256x1024 .f32 := fun y =>
  projected (fun k => m ((c : Thread nD τ).loc main_arg0) (ix3 (seqOf (y 1)) (tokOf (y 1)) k)) (fun k => m ((c : Thread nD τ).loc main_arg1) (ix1 k))
    (fun k => m ((c : Thread nD τ).loc main_arg2) (ix2 (seqOf (y 1)) k)) (fun k => m ((c : Thread nD τ).loc main_arg3) (ix2 (seqOf (y 1)) k))
    (fun k => m ((c : Thread nD τ).loc main_arg4) (ix2 k (col 1024 (by decide) (y 2)))) + m ((c : Thread nD τ).loc main_arg6) (ix1 (y 2))

/-- What the point leaves in its window of the keys. -/
theorem written11 (t : Fin cfg0.N) (r : Fin 256) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix3 0 r j) = keys m c (ix3 0 r j) := by
  unfold out0_11 k0_pay5
  frame_out
  rw [store11_apply]
  simp only [blk_x, blk_g, blk_shift, blk_scale, blk_w11, blk_b11]
  rfl

theorem keys_eq : (dats m 0 c).arrAt 11 cfg0.N = keys m c := by
  refine (dats m 0 c).arrAt_eq_of_covers 11 _ (by decide +kernel) fun t _ y => ?_
  blk_simp [idx t]
  rw [after0_11]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  refine (written11 m c t r j).trans ?_
  refine congrArg (keys m c) ?_
  funext a
  refine Fin.ext ?_
  match a with
  | ⟨0, _⟩ => blk_simp [idx t]
  | ⟨1, _⟩ => blk_simp [idx t]
  | ⟨2, _⟩ => blk_simp [idx t]

/-- The kernel's values, the batch's rows one after another. -/
def values : FVec Ideal S1x256x1024 .f32 := fun y =>
  projected (fun k => m ((c : Thread nD τ).loc main_arg0) (ix3 (seqOf (y 1)) (tokOf (y 1)) k)) (fun k => m ((c : Thread nD τ).loc main_arg1) (ix1 k))
    (fun k => m ((c : Thread nD τ).loc main_arg2) (ix2 (seqOf (y 1)) k)) (fun k => m ((c : Thread nD τ).loc main_arg3) (ix2 (seqOf (y 1)) k))
    (fun k => m ((c : Thread nD τ).loc main_arg4) (ix2 k (col 2048 (by decide) (y 2))))

/-- What the point leaves in its window of the values. -/
theorem written12 (t : Fin cfg0.N) (r : Fin 256) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix3 0 r j) = values m c (ix3 0 r j) := by
  unfold out0_12 k0_pay5
  frame_out
  rw [store12_apply]
  simp only [blk_x, blk_g, blk_shift, blk_scale, blk_w12, blk_b12, add_zero]
  rfl

theorem values_eq : (dats m 0 c).arrAt 12 cfg0.N = values m c := by
  refine (dats m 0 c).arrAt_eq_of_covers 12 _ (by decide +kernel) fun t _ y => ?_
  blk_simp [idx t]
  rw [after0_12]
  obtain ⟨r, j, rfl⟩ : ∃ (r : Fin 256) (j : Fin 1024), y = ix3 0 r j := ⟨y 1, y 2, funext fun a => by
    match a with
    | ⟨0, _⟩ => exact Subsingleton.elim (α := Fin 1) _ _
    | ⟨1, _⟩ => rfl
    | ⟨2, _⟩ => rfl⟩
  refine (written12 m c t r j).trans ?_
  refine congrArg (values m c) ?_
  funext a
  refine Fin.ext ?_
  match a with
  | ⟨0, _⟩ => blk_simp [idx t]
  | ⟨1, _⟩ => blk_simp [idx t]
  | ⟨2, _⟩ => blk_simp [idx t]

end Cert.Proof.QkvS

end
-- ==== Proof.QkvSEq.lean ====
module

public import proofs.«01_k».proof.Defs
public import proofs.«01_k».proof.Proof.QkvSOut
public import proofs.«01_k».proof.Proof.Gen.Kernel7Ideal.Value
public import proofs.«01_k».proof.Proof.Gen.Reference7Ideal.Run
public import Idealize.ShloMosaic.Lib.Pointwise
public import Idealize.ShloMosaic.Lib.Quiescent

/-!
# The projection to queries, keys and values equals its reference for the sample batch
-/

@[expose] public section

set_option maxRecDepth 16384

noncomputable section

namespace Cert.Proof.QkvSEq

open Idealize.ShloMosaic Idealize.SL.Sem

/-- `Cert.quiescent_Reference7Ideal`: the reference ends with its arguments unchanged. -/
theorem frame_ref : Cert.quiescent_Reference7Ideal (hReference7Ideal := Cert.Reference7Ideal.Gen.facts) := fun m ρ _ =>
  (θ_run _ _ _).mono (fun r h => ⟨fun c => (h c).2.2.2, sem_eq_zero_of_no_sems (by decide) r.2⟩)
    (Cert.Reference7Ideal.Value.run (F := Ideal) m ρ)

/-- `Cert.algebraic_Kernel7Ideal_Reference7Ideal`: the two programs end with equal results. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => QkvS.queries m c, fun c => QkvS.keys m c, fun c => QkvS.values m c, ?_, ?_⟩
  · exact (θ_run _ _ _).mono (fun _ h c => ⟨(h c).1.trans (QkvS.queries_eq m c), (h c).2.1.trans (QkvS.keys_eq m c), (h c).2.2.1.trans (QkvS.values_eq m c), (h c).2.2.2⟩)
      (Cert.Kernel7Ideal.Value.run_blocks m ρ)
  · refine (θ_run _ _ _).mono (fun _ h c => ⟨(h c).1.trans ?_, (h c).2.1.trans ?_, (h c).2.2.1.trans ?_, (h c).2.2.2⟩)
      (Cert.Reference7Ideal.Value.run (F := Ideal) m' ρ')
    · obtain ⟨a0, a1, a2, a3, a4, a5, _⟩ := hagree c
      funext i
      obtain ⟨r, j, rfl⟩ : ∃ (r : Fin 256) (j : Fin 1024), i = ix3 0 r j :=
        ⟨i 1, i 2, funext fun a => by match a with | ⟨0, _⟩ => exact Subsingleton.elim (α := Fin 1) _ _ | ⟨1, _⟩ => rfl | ⟨2, _⟩ => rfl⟩
      rw [a0, a1, a2, a3, a4, a5]
      pointwise []
      rfl
    · obtain ⟨a0, a1, a2, a3, a4, _, a6⟩ := hagree c
      funext i
      obtain ⟨r, j, rfl⟩ : ∃ (r : Fin 256) (j : Fin 1024), i = ix3 0 r j :=
        ⟨i 1, i 2, funext fun a => by match a with | ⟨0, _⟩ => exact Subsingleton.elim (α := Fin 1) _ _ | ⟨1, _⟩ => rfl | ⟨2, _⟩ => rfl⟩
      rw [a0, a1, a2, a3, a4, a6]
      pointwise []
      rfl
    · obtain ⟨a0, a1, a2, a3, a4, _, _⟩ := hagree c
      funext i
      obtain ⟨r, j, rfl⟩ : ∃ (r : Fin 256) (j : Fin 1024), i = ix3 0 r j :=
        ⟨i 1, i 2, funext fun a => by match a with | ⟨0, _⟩ => exact Subsingleton.elim (α := Fin 1) _ _ | ⟨1, _⟩ => rfl | ⟨2, _⟩ => rfl⟩
      rw [a0, a1, a2, a3, a4]
      pointwise []
      rfl

end Cert.Proof.QkvSEq

end
-- ==== Proof.InSOut.lean ====
module

public import proofs.«01_k».proof.Proof.ProjSpec
public import proofs.«01_k».proof.Proof.Gen.Kernel8Ideal.Value
public import Idealize.ShloMosaic.Lib.Pipeline.ValueKit
public import Idealize.ShloMosaic.Lib.StableHlo.ReadAt

/-!
# What the combined input projection leaves in its results for the sample batch
-/

@[expose] public section

set_option maxRecDepth 16384

noncomputable section

namespace Cert.Proof.InS

open Idealize.ShloMosaic Idealize.ShloMosaic.TcCoe Cert.Kernel8Ideal Cert.Kernel8Ideal.Gen Cert.Proof.Proj

/-- The body's modulated rows, each with its own shift and scale, -/
theorem rows_apply (x : Vec Ideal S1x256x1024 .f32) (g : Vec Ideal S1x1024 .f32) (sh sc : Vec Ideal S1x256x1024 .f32) (r : Fin 256) (d : Fin 1024) :
    k0_pay2 x g sh sc (ix2 r d) = modulated (fun k => x (ix3 0 r k)) (fun k => g (ix2 0 k)) (fun k => sh (ix3 0 r k)) (fun k => sc (ix3 0 r k)) d := by
  pointwise [k0_pay2]
  rfl

/-- and what it stores of them: the products and the added row. -/
theorem store8_apply (x : Vec Ideal S1x256x1024 .f32) (g : Vec Ideal S1x1024 .f32) (sh sc : Vec Ideal S1x256x1024 .f32) (w : Vec Ideal S1024x2048 .bf16) (b : Vec Ideal S1x2048 .f32)
    (r : Fin 256) (j : Fin 2048) : k0_pay3 x g sh sc w b (ix3 0 r j)
      = projected (fun k => x (ix3 0 r k)) (fun k => g (ix2 0 k)) (fun k => sh (ix3 0 r k)) (fun k => sc (ix3 0 r k)) (fun k => w (ix2 k j)) + b (ix2 0 j) := by
  pointwise [k0_pay3]
  simp only [rows_apply]
  rfl

theorem store9_apply (x : Vec Ideal S1x256x1024 .f32) (g : Vec Ideal S1x1024 .f32) (sh sc : Vec Ideal S1x256x1024 .f32) (w : Vec Ideal S1024x1792 .bf16) (b : Vec Ideal S1x1792 .f32)
    (r : Fin 256) (j : Fin 1792) : k0_pay1 (k0_pay2 x g sh sc) w b (ix3 0 r j)
      = projected (fun k => x (ix3 0 r k)) (fun k => g (ix2 0 k)) (fun k => sh (ix3 0 r k)) (fun k => sc (ix3 0 r k)) (fun k => w (ix2 k j)) + b (ix2 0 j) := by
  pointwise [k0_pay1]
  simp only [rows_apply]
  rfl

/-- The sequence of row `r` of the flattened batch, and its token. -/
def seqOf (r : Fin 256) : Fin 32 := ⟨r.val / 8, by omega⟩
def tokOf (r : Fin 256) : Fin 8 := ⟨r.val % 8, by omega⟩

variable (m : (ℓ : Loc nD τ sig) → Buf (Elt Ideal) ℓ) (c : Dev nD)

/-- The one point reads and writes whole arrays. -/
theorem idx : ∀ t : Fin cfg0.N, win0_0.index t = ![0, 0, 0] ∧ win0_1.index t = ![0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0] ∧ win0_8.index t = ![0, 0, 0] ∧ win0_9.index t = ![0, 0, 0] :=
  (by decide +kernel : ∀ t : Fin grid0.N, _)

/-! ## The arrays that the host hands over -/

theorem V_x (r : Fin 256) (k : Fin 1024) : V m c main_v3 (ix3 0 r k) = m ((c : Thread nD τ).loc main_arg0) (ix3 (seqOf r) (tokOf r) k) := by
  unfold V
  after_reads_at
  rfl

theorem V_g (k : Fin 1024) : V m c main_v12 (ix2 0 k) = m ((c : Thread nD τ).loc main_arg1) (ix1 k) := by
  unfold V
  after_reads_at

theorem V_shift (r : Fin 256) (k : Fin 1024) : V m c main_v6 (ix3 0 r k) = m ((c : Thread nD τ).loc main_arg2) (ix2 (seqOf r) k) := by
  unfold V
  after_reads_at
  rfl

theorem V_scale (r : Fin 256) (k : Fin 1024) : V m c main_v9 (ix3 0 r k) = m ((c : Thread nD τ).loc main_arg3) (ix2 (seqOf r) k) := by
  unfold V
  after_reads_at
  rfl

theorem V_w8 (k : Fin 1024) (j : Fin 2048) : V m c main_v10 (ix2 k j) = m ((c : Thread nD τ).loc main_arg4) (ix2 k (Fin.castLE (by decide) j)) := by
  unfold V
  after_reads_at
  rfl

theorem V_b8 (j : Fin 2048) : V m c main_v1 (ix2 0 j) = (0 : EReal) := by
  unfold V
  after_reads_at

theorem V_w9 (k : Fin 1024) (j : Fin 1792) : V m c main_v11 (ix2 k j) = m ((c : Thread nD τ).loc main_arg4) (ix2 k (col 2048 (by decide) j)) := by
  unfold V
  after_reads_at
  rfl

theorem V_b9 (j : Fin 1792) : V m c main_v2 (ix2 0 j) = (0 : EReal) := by
  unfold V
  after_reads_at

/-! ## What the point reads -/

section blocks

variable (t : Fin cfg0.N) (r : Fin 256) (k : Fin 1024)

theorem blk_x : iblk m c 0 t (ix3 0 r k) = m ((c : Thread nD τ).loc main_arg0) (ix3 (seqOf r) (tokOf r) k) := by
  rw [← V_x m]
  blk_ext [iblk, idx t]

theorem blk_g : iblk m c 1 t (ix2 0 k) = m ((c : Thread nD τ).loc main_arg1) (ix1 k) := by
  rw [← V_g m]
  blk_ext [iblk, idx t]

theorem blk_shift : iblk m c 2 t (ix3 0 r k) = m ((c : Thread nD τ).loc main_arg2) (ix2 (seqOf r) k) := by
  rw [← V_shift m]
  blk_ext [iblk, idx t]

theorem blk_scale : iblk m c 3 t (ix3 0 r k) = m ((c : Thread nD τ).loc main_arg3) (ix2 (seqOf r) k) := by
  rw [← V_scale m]
  blk_ext [iblk, idx t]

theorem blk_w8 (j : Fin 2048) : iblk m c 4 t (ix2 k j) = m ((c : Thread nD τ).loc main_arg4) (ix2 k (Fin.castLE (by decide) j)) := by
  rw [← V_w8 m]
  blk_ext [iblk, idx t]

theorem blk_b8 (j : Fin 2048) : iblk m c 6 t (ix2 0 j) = (0 : EReal) := by
  rw [← V_b8 m c j]
  blk_ext [iblk, idx t]

theorem blk_w9 (j : Fin 1792) : iblk m c 5 t (ix2 k j) = m ((c : Thread nD τ).loc main_arg4) (ix2 k (col 2048 (by decide) j)) := by
  rw [← V_w9 m]
  blk_ext [iblk, idx t]

theorem blk_b9 (j : Fin 1792) : iblk m c 7 t (ix2 0 j) = (0 : EReal) := by
  rw [← V_b9 m c j]
  blk_ext [iblk, idx t]

end blocks

/-! ## The results -/

/-- The kernel's retention, the batch's rows one after another. -/
def retention : FVec Ideal S1x256x2048 .f32 := fun y =>
  projected (fun k => m ((c : Thread nD τ).loc main_arg0) (ix3 (seqOf (y 1)) (tokOf (y 1)) k)) (fun k => m ((c : Thread nD τ).loc main_arg1) (ix1 k))
    (fun k => m ((c : Thread nD τ).loc main_arg2) (ix2 (seqOf (y 1)) k)) (fun k => m ((c : Thread nD τ).loc main_arg3) (ix2 (seqOf (y 1)) k))
    (fun k => m ((c : Thread nD τ).loc main_arg4) (ix2 k (Fin.castLE (by decide) (y 2))))

/-- What the point leaves in its window of the retention. -/
theorem written8 (t : Fin cfg0.N) (r : Fin 256) (j : Fin 2048) :
    out0_8 (iblk m c 0 t) (iblk m c 1 t) (iblk m c 2 t) (iblk m c 3 t) (iblk m c 4 t) (iblk m c 5 t) (iblk m c 6 t) (iblk m c 7 t) (ix3 0 r j) = retention m c (ix3 0 r j) := by
  frame_out
  rw [store8_apply]
  simp only [blk_x, blk_g, blk_shift, blk_scale, blk_w8, blk_b8, add_zero]
  rfl

theorem retention_eq : (dats m 0 c).arrAt 8 cfg0.N = retention m c := by
  refine (dats m 0 c).arrAt_eq_of_covers 8 _ (by decide +kernel) fun t _ y => ?_
  blk_simp [idx t]
  rw [after0_8]
  obtain ⟨r, j, rfl⟩ : ∃ (r : Fin 256) (j : Fin 2048), y = ix3 0 r j := ⟨y 1, y 2, funext fun a => by
    match a with
    | ⟨0, _⟩ => exact Subsingleton.elim (α := Fin 1) _ _
    | ⟨1, _⟩ => rfl
    | ⟨2, _⟩ => rfl⟩
  refine (written8 m c t r j).trans ?_
  refine congrArg (retention m c) ?_
  funext a
  refine Fin.ext ?_
  match a with
  | ⟨0, _⟩ => blk_simp [idx t]
  | ⟨1, _⟩ => blk_simp [idx t]
  | ⟨2, _⟩ => blk_simp [idx t]

/-- The kernel's mixing, the batch's rows one after another. -/
def mixing : FVec Ideal S1x256x1792 .f32 := fun y =>
  projected (fun k => m ((c : Thread nD τ).loc main_arg0) (ix3 (seqOf (y 1)) (tokOf (y 1)) k)) (fun k => m ((c : Thread nD τ).loc main_arg1) (ix1 k))
    (fun k => m ((c : Thread nD τ).loc main_arg2) (ix2 (seqOf (y 1)) k)) (fun k => m ((c : Thread nD τ).loc main_arg3) (ix2 (seqOf (y 1)) k))
    (fun k => m ((c : Thread nD τ).loc main_arg4) (ix2 k (col 2048 (by decide) (y 2))))

/-- What the point leaves in its window of the mixing. -/
theorem written9 (t : Fin cfg0.N) (r : Fin 256) (j : Fin 1792) :
    out0_9 (iblk m c 0 t) (iblk m c 1 t) (iblk m c 2 t) (iblk m c 3 t) (iblk m c 4 t) (iblk m c 5 t) (iblk m c 6 t) (iblk m c 7 t) (ix3 0 r j) = mixing m c (ix3 0 r j) := by
  frame_out
  rw [store9_apply]
  simp only [blk_x, blk_g, blk_shift, blk_scale, blk_w9, blk_b9, add_zero]
  rfl

theorem mixing_eq : (dats m 0 c).arrAt 9 cfg0.N = mixing m c := by
  refine (dats m 0 c).arrAt_eq_of_covers 9 _ (by decide +kernel) fun t _ y => ?_
  blk_simp [idx t]
  rw [after0_9]
  obtain ⟨r, j, rfl⟩ : ∃ (r : Fin 256) (j : Fin 1792), y = ix3 0 r j := ⟨y 1, y 2, funext fun a => by
    match a with
    | ⟨0, _⟩ => exact Subsingleton.elim (α := Fin 1) _ _
    | ⟨1, _⟩ => rfl
    | ⟨2, _⟩ => rfl⟩
  refine (written9 m c t r j).trans ?_
  refine congrArg (mixing m c) ?_
  funext a
  refine Fin.ext ?_
  match a with
  | ⟨0, _⟩ => blk_simp [idx t]
  | ⟨1, _⟩ => blk_simp [idx t]
  | ⟨2, _⟩ => blk_simp [idx t]

end Cert.Proof.InS

end
-- ==== Proof.InSEq.lean ====
module

public import proofs.«01_k».proof.Defs
public import proofs.«01_k».proof.Proof.InSOut
public import proofs.«01_k».proof.Proof.Gen.Kernel8Ideal.Value
public import proofs.«01_k».proof.Proof.Gen.Reference8Ideal.Run
public import Idealize.ShloMosaic.Lib.Pointwise
public import Idealize.ShloMosaic.Lib.Quiescent

/-!
# The combined input projection equals its reference for the sample batch
-/

@[expose] public section

set_option maxRecDepth 16384

noncomputable section

namespace Cert.Proof.InSEq

open Idealize.ShloMosaic Idealize.SL.Sem

/-- `Cert.quiescent_Reference8Ideal`: the reference ends with its arguments unchanged. -/
theorem frame_ref : Cert.quiescent_Reference8Ideal (hReference8Ideal := Cert.Reference8Ideal.Gen.facts) := fun m ρ _ =>
  (θ_run _ _ _).mono (fun r h => ⟨fun c => (h c).2.2, sem_eq_zero_of_no_sems (by decide) r.2⟩)
    (Cert.Reference8Ideal.Value.run (F := Ideal) m ρ)

/-- `Cert.algebraic_Kernel8Ideal_Reference8Ideal`: the two programs end with equal results. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => InS.retention m c, fun c => InS.mixing m c, ?_, ?_⟩
  · exact (θ_run _ _ _).mono (fun _ h c => ⟨(h c).1.trans (InS.retention_eq m c), (h c).2.1.trans (InS.mixing_eq m c), (h c).2.2⟩)
      (Cert.Kernel8Ideal.Value.run_blocks m ρ)
  · refine (θ_run _ _ _).mono (fun _ h c => ⟨(h c).1.trans ?_, (h c).2.1.trans ?_, (h c).2.2⟩)
      (Cert.Reference8Ideal.Value.run (F := Ideal) m' ρ')
    · obtain ⟨a0, a1, a2, a3, a4⟩ := hagree c
      funext i
      obtain ⟨r, j, rfl⟩ : ∃ (r : Fin 256) (j : Fin 2048), i = ix3 0 r j :=
        ⟨i 1, i 2, funext fun a => by match a with | ⟨0, _⟩ => exact Subsingleton.elim (α := Fin 1) _ _ | ⟨1, _⟩ => rfl | ⟨2, _⟩ => rfl⟩
      rw [a0, a1, a2, a3, a4]
      pointwise []
      rfl
    · obtain ⟨a0, a1, a2, a3, a4⟩ := hagree c
      funext i
      obtain ⟨r, j, rfl⟩ : ∃ (r : Fin 256) (j : Fin 1792), i = ix3 0 r j :=
        ⟨i 1, i 2, funext fun a => by match a with | ⟨0, _⟩ => exact Subsingleton.elim (α := Fin 1) _ _ | ⟨1, _⟩ => rfl | ⟨2, _⟩ => rfl⟩
      rw [a0, a1, a2, a3, a4]
      pointwise []
      rfl

end Cert.Proof.InSEq

end
-- ==== Proof.MoeSBlock.lean ====
module

public import proofs.«01_k».proof.Proof.MoeBlock
public import proofs.«01_k».proof.Proof.Gen.Kernel9Ideal.Skeleton
public import Idealize.ShloMosaic.Lib.Pointwise

/-!
# What one grid point of the experts' kernel computes for the sample batch

The body's stored values at an index, in the formulas of `MoeBlock.lean`. The 256 rows of the batch are one block, and
every row has its own gate.
-/

@[expose] public section

set_option maxRecDepth 16384

noncomputable section

namespace Cert.Proof.MoeS

open Idealize.ShloMosaic Cert.Kernel9Ideal Cert.Kernel9Ideal.Gen Cert.Proof.Moe

/-- The layer's output at row `r` and lane `d`: the shared network plus the 64 experts' networks, each scaled by the row's
    routing weight for it, through the closing norm. -/
def layer (x g h : Fin 256 → Fin 1024 → EReal) (cb : Fin 256 → Fin 64 → EReal) (wg wu : Fin 64 → Fin 1024 → Fin 256 → EReal)
    (wd : Fin 64 → Fin 256 → Fin 1024 → EReal) (sg su : Fin 1024 → Fin 256 → EReal) (sd : Fin 256 → Fin 1024 → EReal)
    (w : Fin 1024 → EReal) (r : Fin 256) (d : Fin 1024) : EReal :=
  normed (x r) (g r)
    (fun k => ffn (h r) sg su (fun f => sd f k) + ∑ e, scaled (cb r e) (h r) (wg e) (wu e) (fun f => wd e f k)) w d

/-- The reset's value: the shared network's output. -/
theorem pay4_apply (h : Vec Ideal S1x256x1024 .bf16) (wg wu : Vec Ideal S1024x256 .bf16) (wd : Vec Ideal S256x1024 .bf16)
    (r : Fin 256) (d : Fin 1024) : k0_pay4 h wg wu wd (ix2 r d)
      = ffn (fun k => h (ix3 0 r k)) (fun k f => wg (ix2 k f)) (fun k f => wu (ix2 k f)) (fun f => wd (ix2 f d)) := by
  pointwise [k0_pay4, k0_pay3]
  rfl

/-- The point's contribution: expert `e`'s network, its activations scaled by the row's weight for it, added to the sum. -/
theorem pay5_apply (i : grid0.Coords) (h : Vec Ideal S1x256x1024 .bf16) (cb : Vec Ideal S1x256x64 .f32)
    (wg wu : Vec Ideal S1x1024x256 .bf16) (acc : Vec Ideal S256x1024 .f32) (wd : Vec Ideal S1x256x1024 .bf16)
    (r : Fin 256) (d : Fin 1024) : k0_pay5 i h cb wg wu acc wd (ix2 r d)
      = acc (ix2 r d) + scaled (cb (ix3 0 r ⟨(i 2).val, (i 2).isLt⟩)) (fun k => h (ix3 0 r k)) (fun k f => wg (ix3 0 k f))
          (fun k f => wu (ix3 0 k f)) (fun f => wd (ix3 0 f d)) := by
  pointwise [k0_pay5, k0_pay3]
  rw [pick (i 2).val (i 2).isLt fun x => cb (ix3 0 r x)]
  rfl

/-- The last point's store: the norm of the residual plus the gated sum. -/
theorem pay2_apply (x : Vec Ideal S1x256x1024 .f32) (g : Vec Ideal S1x256x1024 .f32) (acc : Vec Ideal S256x1024 .f32)
    (w : Vec Ideal S1x1024 .f32) (r : Fin 256) (d : Fin 1024) : k0_pay2 x g acc w (ix3 0 r d)
      = normed (fun k => x (ix3 0 r k)) (fun k => g (ix3 0 r k)) (fun k => acc (ix2 r k)) (fun k => w (ix2 0 k)) d := by
  pointwise [k0_pay2]
  rfl

end Cert.Proof.MoeS

end
-- ==== Proof.MoeSFold.lean ====
module

public import proofs.«01_k».proof.Proof.MoeSBlock
public import proofs.«01_k».proof.Proof.Gen.Kernel9Ideal.Value
public import Idealize.ShloMosaic.Lib.Pipeline.ValueKit
public import Idealize.ShloMosaic.Lib.StableHlo.ReadAt

/-!
# What the experts' kernel leaves in its result for the sample batch

Each input block read off its argument; the running sum in scratch over the 64 points; the result array.
-/

@[expose] public section

set_option maxRecDepth 16384

noncomputable section

namespace Cert.Proof.MoeS

open Idealize.ShloMosaic Idealize.ShloMosaic.TcCoe Cert.Kernel9Ideal Cert.Kernel9Ideal.Gen
open Cert.Proof.Moe (ffn scaled normed)

variable (m : (ℓ : Loc nD τ sig) → Buf (Elt Ideal) ℓ)

/-- Which block each window reads at point `t`: the whole batch, and expert `t % 64`. -/
theorem idx0 : ∀ t : Fin cfg0.N, win0_0.index t = ![0, 0, 0]
    ∧ win0_1.index t = ![0, 0, 0]
    ∧ win0_2.index t = ![t.val % 64, 0, 0] ∧ win0_3.index t = ![t.val % 64, 0, 0] ∧ win0_4.index t = ![t.val % 64, 0, 0]
    ∧ win0_5.index t = ![0, 0] ∧ win0_6.index t = ![0, 0] ∧ win0_7.index t = ![0, 0]
    ∧ win0_8.index t = ![0, 0, 0] ∧ win0_9.index t = ![0, 0, 0]
    ∧ win0_10.index t = ![0, 0] ∧ (grid0.coords t 2).val = t.val % 64 :=
  (by decide +kernel : ∀ t : Fin grid0.N, _)

section blocks

variable (c : Dev nD) (t : Fin cfg0.N) (r : Fin 256) (e : Fin 64) (k d : Fin 1024) (f : Fin 256)

/-- The rows of the normalized activations. -/
theorem blk0 :
    iblk m c 0 t (ix3 0 r k) = m ((c : Thread nD τ).loc main_arg2) (ix3 0 r k) := by
  blk_ext [iblk, V, idx0 t]

/-- The rows of the routing weights. -/
theorem blk1 (j : Fin 64) :
    iblk m c 1 t (ix3 0 r j) = m ((c : Thread nD τ).loc main_arg3) (ix3 0 r j) := by
  blk_ext [iblk, V, idx0 t]

/-- The point's expert's gate weights. -/
theorem blk2 (he : t.val % 64 = e) :
    iblk m c 2 t (ix3 0 k f) = m ((c : Thread nD τ).loc main_arg4) (ix3 e k f) := by
  blk_ext [iblk, V, idx0 t]

/-- The point's expert's up weights. -/
theorem blk3 (he : t.val % 64 = e) :
    iblk m c 3 t (ix3 0 k f) = m ((c : Thread nD τ).loc main_arg5) (ix3 e k f) := by
  blk_ext [iblk, V, idx0 t]

/-- The point's expert's down weights. -/
theorem blk4 (he : t.val % 64 = e) :
    iblk m c 4 t (ix3 0 f d) = m ((c : Thread nD τ).loc main_arg6) (ix3 e f d) := by
  blk_ext [iblk, V, idx0 t]

/-- The shared network's gate weights. -/
theorem blk5 : iblk m c 5 t (ix2 k f) = m ((c : Thread nD τ).loc main_arg7) (ix2 k f) := by
  blk_ext [iblk, V, idx0 t]

/-- The shared network's up weights. -/
theorem blk6 : iblk m c 6 t (ix2 k f) = m ((c : Thread nD τ).loc main_arg8) (ix2 k f) := by
  blk_ext [iblk, V, idx0 t]

/-- The shared network's down weights. -/
theorem blk7 : iblk m c 7 t (ix2 f d) = m ((c : Thread nD τ).loc main_arg9) (ix2 f d) := by
  blk_ext [iblk, V, idx0 t]

/-- The rows of the residual. -/
theorem blk8 :
    iblk m c 8 t (ix3 0 r k) = m ((c : Thread nD τ).loc main_arg0) (ix3 0 r k) := by
  blk_ext [iblk, V, idx0 t]

/-- The rows' gates. -/
theorem blk9 :
    iblk m c 9 t (ix3 0 r k) = m ((c : Thread nD τ).loc main_arg1) (ix3 0 r k) := by
  blk_ext [iblk, V, idx0 t]

/-- The closing norm's weight, which the host hands over as a row. -/
theorem V_v6 : V m c main_v6 (ix2 0 k) = m ((c : Thread nD τ).loc main_arg10) (ix1 k) := by
  unfold V
  after_reads_at

theorem blk10 : iblk m c 10 t (ix2 0 k) = m ((c : Thread nD τ).loc main_arg10) (ix1 k) := by
  rw [← V_v6 m]
  blk_ext [iblk, idx0 t]

end blocks

/-- The shared network's output for row `r`, from the launch's arguments. -/
def sharedOf (c : Dev nD) (r : Fin 256) (d : Fin 1024) : EReal :=
  ffn (fun k => m ((c : Thread nD τ).loc main_arg2) (ix3 0 r k)) (fun k f => m ((c : Thread nD τ).loc main_arg7) (ix2 k f))
    (fun k f => m ((c : Thread nD τ).loc main_arg8) (ix2 k f)) (fun f => m ((c : Thread nD τ).loc main_arg9) (ix2 f d))

/-- Expert `e`'s scaled output for row `r`, from the launch's arguments. -/
def expertOf (c : Dev nD) (r : Fin 256) (e : Fin 64) (d : Fin 1024) : EReal :=
  scaled (m ((c : Thread nD τ).loc main_arg3) (ix3 0 r e)) (fun k => m ((c : Thread nD τ).loc main_arg2) (ix3 0 r k))
    (fun k f => m ((c : Thread nD τ).loc main_arg4) (ix3 e k f)) (fun k f => m ((c : Thread nD τ).loc main_arg5) (ix3 e k f))
    (fun f => m ((c : Thread nD τ).loc main_arg6) (ix3 e f d))

/-- The point's expert. -/
def eOf (t : Fin cfg0.N) : Fin 64 := ⟨t.val % 64, by omega⟩

/-- The shared network's value at point `t`. -/
theorem shared_point (c : Dev nD) (t : Fin cfg0.N) (r : Fin 256) (d : Fin 1024) :
    k0_pay4 (iblk m c 0 t) (iblk m c 5 t) (iblk m c 6 t) (iblk m c 7 t) (ix2 r d) = sharedOf m c r d := by
  rw [pay4_apply]
  unfold sharedOf
  simp only [blk0 m c t r _, blk5, blk6, blk7]

/-- One point's step: expert `t % 64` added to the running sum `acc`. -/
theorem step_point (c : Dev nD) (t : Fin cfg0.N) (acc : Vec Ideal S256x1024 .f32) (r : Fin 256) (d : Fin 1024) :
    k0_pay1 (k0_pay5 (grid0.coords t) (iblk m c 0 t) (iblk m c 1 t) (iblk m c 2 t) (iblk m c 3 t) acc (iblk m c 4 t)) (ix2 r d)
      = acc (ix2 r d) + expertOf m c r (eOf t) d := by
  have e : k0_pay1 (k0_pay5 (grid0.coords t) (iblk m c 0 t) (iblk m c 1 t) (iblk m c 2 t) (iblk m c 3 t) acc (iblk m c 4 t)) (ix2 r d)
      = k0_pay5 (grid0.coords t) (iblk m c 0 t) (iblk m c 1 t) (iblk m c 2 t) (iblk m c 3 t) acc (iblk m c 4 t) (ix2 r d) := by
    pointwise [k0_pay1]
  rw [e, pay5_apply]
  have he : (⟨(grid0.coords t 2).val, (grid0.coords t 2).isLt⟩ : Fin 64) = eOf t := Fin.ext (idx0 t).2.2.2.2.2.2.2.2.2.2.2
  unfold expertOf
  rw [← he]
  simp only [blk0 m c t r _, blk1 m c t r _,
    blk2 m c t (eOf t) _ _ rfl, blk3 m c t (eOf t) _ _ rfl, blk4 m c t (eOf t) _ _ rfl, he]

/-- A block's first point: the shared network plus expert 0. -/
theorem scr_reset (c : Dev nD) (t : Fin cfg0.N) (h0 : t.val % 64 = 0) (r : Fin 256) (d : Fin 1024) :
    (outsAt0 m c t.val t.isLt).2 (ix2 r d)
      = sharedOf m c r d + expertOf m c r (eOf t) d := by
  rw [outsAt0_A m c t h0 (by omega)]
  frame_out
  rw [step_point, shared_point]

/-- A later point adds its expert. -/
theorem scr_step (c : Dev nD) (t : Fin cfg0.N) (h0 : ¬t.val % 64 = 0) (r : Fin 256) (d : Fin 1024) :
    (outsAt0 m c t.val t.isLt).2 (ix2 r d)
      = (outsAt0 m c (t.val - 1) (Nat.lt_of_le_of_lt (Nat.sub_le _ _) t.isLt)).2 (ix2 r d)
        + expertOf m c r (eOf t) d := by
  by_cases h1 : t.val % 64 = 63
  · rw [outsAt0_C m c t h0 h1]
    frame_out
    rw [step_point]
    congr 1
    exact congrFun (Memref.IsWhole.read_unread _ _) _
  · rw [outsAt0_B m c t h0 h1]
    frame_out
    rw [step_point]
    congr 1
    exact congrFun (Memref.IsWhole.read_unread _ _) _

/-- After point `s` the scratch holds the shared network plus experts `0 … s`. -/
theorem scr_prefix (c : Dev nD) (r : Fin 256) (d : Fin 1024) : ∀ (s : ℕ) (hs : s + 1 ≤ 64) (h : s < cfg0.N),
    (outsAt0 m c s h).2 (ix2 r d)
      = sharedOf m c r d + ∑ e : Fin (s + 1), expertOf m c r (Fin.castLE hs e) d
  | 0, hs, h => by
    have he' : eOf ⟨0, h⟩ = Fin.castLE hs 0 := Fin.ext (by show 0 % 64 = 0; omega)
    have e := scr_reset m c ⟨0, h⟩ (by show 0 % 64 = 0; omega) r d
    rw [he'] at e
    rw [Fin.sum_univ_one]
    exact e
  | s + 1, hs, h => by
    have he' : eOf ⟨s + 1, h⟩ = Fin.castLE hs (Fin.last (s + 1)) := Fin.ext (by show (s + 1) % 64 = s + 1; omega)
    have e := scr_step m c ⟨s + 1, h⟩ (by show ¬(s + 1) % 64 = 0; omega) r d
    rw [he'] at e
    refine e.trans (Eq.trans (congrArg (· + _) (scr_prefix c r d s (by omega) (by omega))) ?_)
    rw [Fin.sum_univ_castSucc (n := s + 1), ← add_assoc]
    rfl

/-- The last point writes back the closing norm of the residual plus the gated sum. -/
theorem out_last (c : Dev nD) (t : Fin cfg0.N) (h : t.val % 64 = 63) (r : Fin 256) (d : Fin 1024) :
    (outsAt0 m c t.val t.isLt).1 (ix3 0 r d)
      = normed (fun k => m ((c : Thread nD τ).loc main_arg0) (ix3 0 r k)) (fun k => m ((c : Thread nD τ).loc main_arg1) (ix3 0 r k))
          (fun k => sharedOf m c r k + ∑ e, expertOf m c r e k) (fun k => m ((c : Thread nD τ).loc main_arg10) (ix1 k)) d := by
  have hN : t.val < 64 := by have := t.isLt; have : cfg0.N = 64 := N_0; omega
  have hq : 63 = t.val := by omega
  have hs : ∀ k, (outsAt0 m c t.val t.isLt).2 (ix2 r k) = sharedOf m c r k + ∑ e, expertOf m c r e k := by
    intro k
    have e := scr_prefix m c r k 63 (by omega) (by rw [hq]; exact t.isLt)
    have e2 : outsAt0 m c 63 (by rw [hq]; exact t.isLt) = outsAt0 m c t.val t.isLt := by
      congr 1
    rw [e2] at e
    exact e
  have e1 : (outsAt0 m c t.val t.isLt).1
      = k0_pay2 (iblk m c 8 t) (iblk m c 9 t) (outsAt0 m c t.val t.isLt).2 (iblk m c 10 t) := by
    rw [outsAt0_C m c t (by omega) h]
    frame_out
  rw [e1, pay2_apply]
  simp only [hs, blk8 m c t r _, blk9 m c t r _, blk10]

/-- THE RESULT of the experts' kernel: the layer's formula at every row and lane, from the launch's arguments. -/
theorem result_apply (c : Dev nD) (r : Fin 256) (d : Fin 1024) :
    Value.G11 m c (ix3 0 r d)
      = layer (fun r k => m ((c : Thread nD τ).loc main_arg0) (ix3 0 r k)) (fun r k => m ((c : Thread nD τ).loc main_arg1) (ix3 0 r k))
          (fun r k => m ((c : Thread nD τ).loc main_arg2) (ix3 0 r k)) (fun r e => m ((c : Thread nD τ).loc main_arg3) (ix3 0 r e))
          (fun e k f => m ((c : Thread nD τ).loc main_arg4) (ix3 e k f)) (fun e k f => m ((c : Thread nD τ).loc main_arg5) (ix3 e k f))
          (fun e f k => m ((c : Thread nD τ).loc main_arg6) (ix3 e f k)) (fun k f => m ((c : Thread nD τ).loc main_arg7) (ix2 k f))
          (fun k f => m ((c : Thread nD τ).loc main_arg8) (ix2 k f)) (fun f k => m ((c : Thread nD τ).loc main_arg9) (ix2 f k))
          (fun k => m ((c : Thread nD τ).loc main_arg10) (ix1 k)) r d := by
  have hp : Value.pt11Of (ix3 0 r d) = 63 := by
    show 64 * (1 * (0 / 1 - 0) + 1 * (r.val / 256 - 0) + 1 * (d.val / 1024 - 0)) + 63 = _
    omega
  have hlt : Value.pt11Of (ix3 0 r d) < cfg0.N := by rw [hp, show cfg0.N = 64 from N_0]; omega
  have hloc : Value.loc11Of (ix3 0 r d) = ix3 0 r d := by
    funext a
    match a with
    | ⟨0, _⟩ => rfl
    | ⟨1, _⟩ => exact Fin.ext (by show r.val % 256 = r.val; omega)
    | ⟨2, _⟩ => exact Fin.ext (by show d.val % 1024 = d.val; omega)
  unfold Value.G11
  rw [dif_pos hlt, ← Value.outsAt0_sweep, hloc]
  exact out_last m c ⟨Value.pt11Of (ix3 0 r d), hlt⟩ (by show Value.pt11Of (ix3 0 r d) % 64 = 63; omega) r d

end Cert.Proof.MoeS

end
-- ==== Proof.MoeSRef.lean ====
module

public import proofs.«01_k».proof.Proof.MoeRef
public import proofs.«01_k».proof.Proof.Gen.Reference9Ideal.Step
public import Idealize.ShloMosaic.Lib.Pointwise

/-!
# What the experts' reference computes for the sample batch

The reference goes over the experts in a counted loop: its running sum after `n` trips, and its result, at an index.
-/

@[expose] public section

set_option maxRecDepth 16384

noncomputable section

namespace Cert.Proof.MoeSRef

open Idealize.ShloMosaic Cert.Reference9Ideal Cert.Reference9Ideal.Gen Cert.Reference9Ideal.Step
open Cert.Proof.MoeRef (slice2 slice3 toInt_trip div_one_add_exp)

/-- The trip's gate, up and down weights are expert `e`'s. -/
theorem b3_apply (e : Fin 64) (s : State Ideal) (k : Fin 1024) (f : Fin 256) :
    b3 e.val s (ix2 k f) = s.main_v9_0 (ix3 e k f) := by
  pointwise [b3]
  unfold b2
  refine slice3 _ _ e _ ?_ ?_ ?_ k f
  · exact toInt_trip e
  · rfl
  · rfl

theorem b7_apply (e : Fin 64) (s : State Ideal) (k : Fin 1024) (f : Fin 256) :
    b7 e.val s (ix2 k f) = s.main_v9_1 (ix3 e k f) := by
  pointwise [b7]
  unfold b6
  refine slice3 _ _ e _ ?_ ?_ ?_ k f
  · exact toInt_trip e
  · rfl
  · rfl

theorem b11_apply (e : Fin 64) (s : State Ideal) (k : Fin 256) (f : Fin 1024) :
    b11 e.val s (ix2 k f) = s.main_v9_2 (ix3 e k f) := by
  pointwise [b11]
  unfold b10
  refine slice3 _ _ e _ ?_ ?_ ?_ k f
  · exact toInt_trip e
  · rfl
  · rfl

/-- The trip's routing weights are the tokens' weights for expert `e`. -/
theorem b14_apply (e : Fin 64) (s : State Ideal) (n : Fin 256) :
    b14 e.val s (ix1 n) = s.main_v9_3 (ix2 e n) := by
  pointwise [b14]
  unfold b13
  refine slice2 _ _ e _ ?_ ?_ n
  · exact toInt_trip e
  · rfl

/-- ONE TRIP adds expert `e`'s network, scaled by the token's routing weight for it. -/
theorem trip_apply (e : Fin 64) (s : State Ideal) (n : Fin 256) (d : Fin 1024) :
    (step e.val s).main_v9_6 (ix2 n d)
      = (s.main_v9_6 (ix2 n d) + s.main_v9_3 (ix2 e n)
          * Moe.ffn (fun k => s.main_v9_4 (ix2 n k)) (fun k f => s.main_v9_0 (ix3 e k f)) (fun k f => s.main_v9_1 (ix3 e k f))
              (fun f => s.main_v9_2 (ix3 e f d)) : EReal) := by
  rw [step_main_v9_6]
  pointwise [b31, b30, b29, b28, b27, b26, b25, b24, b23, b22, b21, b20, b19, b18, b17, b16, b15]
  simp only [b3_apply, b7_apply, b11_apply, b14_apply, div_one_add_exp]
  rfl

/-- The reference's result: the closing norm of the residual plus the gated running sum. -/
theorem R_apply (s : State Ideal) (x : FVec Ideal S1x256x1024 .f32) (g : FVec Ideal S1x256x1024 .f32) (w : FVec Ideal S1024 .f32)
    (r : Fin 256) (d : Fin 1024) : R_main_v25 s x g w (ix3 0 r d)
      = Moe.normed (fun k => x (ix3 0 r k)) (fun k => g (ix3 0 r k))
          (fun k => s.main_v9_6 (ix2 r k)) (fun k => w (ix1 k)) d := by
  pointwise [R_main_v25]
  rfl

variable (a4 a5 : FVec Ideal S64x1024x256 .f32) (a6 : FVec Ideal S64x256x1024 .f32) (a2 : FVec Ideal S1x256x1024 .bf16)
  (a3 : FVec Ideal S1x256x64 .f32) (a7 a8 : FVec Ideal S1024x256 .f32) (a9 : FVec Ideal S256x1024 .f32)

/-- The loop's state after `n` trips. -/
def iter : ℕ → State Ideal
  | 0 => init a4 a5 a6 a2 a3 a7 a8 a9
  | n + 1 => step n (iter n)

theorem iter_0 (n : ℕ) : (iter a4 a5 a6 a2 a3 a7 a8 a9 n).main_v9_0 = a4 := by
  induction n with
  | zero => rfl
  | succ n ih => exact ih
theorem iter_1 (n : ℕ) : (iter a4 a5 a6 a2 a3 a7 a8 a9 n).main_v9_1 = a5 := by
  induction n with
  | zero => rfl
  | succ n ih => exact ih
theorem iter_2 (n : ℕ) : (iter a4 a5 a6 a2 a3 a7 a8 a9 n).main_v9_2 = a6 := by
  induction n with
  | zero => rfl
  | succ n ih => exact ih
theorem iter_3 (n : ℕ) : (iter a4 a5 a6 a2 a3 a7 a8 a9 n).main_v9_3 = A_main_v8 a2 a3 a7 a8 a9 := by
  induction n with
  | zero => rfl
  | succ n ih => exact ih
theorem iter_4 (n : ℕ) : (iter a4 a5 a6 a2 a3 a7 a8 a9 n).main_v9_4 = A_main_v1 a2 a3 a7 a8 a9 := by
  induction n with
  | zero => rfl
  | succ n ih => exact ih

/-- The loop reads the routing weights by expert and flattened token. -/
theorem comb_apply (e : Fin 64) (r : Fin 256) :
    A_main_v8 (F := Ideal) a2 a3 a7 a8 a9 (ix2 e r) = (a3 (ix3 0 r e) : EReal) := by
  pointwise [A_main_v8, A_main_v2]
  all_goals (congr 2 <;> exact Fin.ext (by dsimp only; omega))

/-- The loop reads the tokens by flattened token. -/
theorem tok_apply (r : Fin 256) (k : Fin 1024) :
    A_main_v1 (F := Ideal) a2 a3 a7 a8 a9 (ix2 r k) = (a2 (ix3 0 r k) : EReal) := by
  pointwise [A_main_v1, A_main_v0]
  all_goals (congr 2 <;> exact Fin.ext (by dsimp only; omega))

/-- The loop's running sum starts at the shared network's output. -/
theorem start_apply (r : Fin 256) (d : Fin 1024) :
    A_main_v7 (F := Ideal) a2 a3 a7 a8 a9 (ix2 r d)
      = (Moe.ffn (fun k => a2 (ix3 0 r k)) (fun k f => a7 (ix2 k f)) (fun k f => a8 (ix2 k f)) (fun f => a9 (ix2 f d)) : EReal) := by
  pointwise [A_main_v7, A_main_v6, A_main_v5, A_main_v4, A_main_v3, A_main_v1, A_main_v0, A_main_call0_v5, A_main_call0_v3,
    A_main_call0_v1, A_main_call0_v0, K_main_call0_v2, K_main_call0_cst, K_main_call0_v4, K_main_call0_cst_0]
  simp only [div_one_add_exp]
  rfl

/-- THE RUNNING SUM after `n` trips: the shared network plus the first `n` experts, each scaled by its routing weight. -/
theorem iter_apply (r : Fin 256) (d : Fin 1024) : ∀ (n : ℕ) (hn : n ≤ 64),
    (iter a4 a5 a6 a2 a3 a7 a8 a9 n).main_v9_6 (ix2 r d)
      = Moe.ffn (fun k => a2 (ix3 0 r k)) (fun k f => a7 (ix2 k f)) (fun k f => a8 (ix2 k f)) (fun f => a9 (ix2 f d))
        + ∑ e : Fin n, a3 (ix3 0 r (Fin.castLE hn e))
            * Moe.ffn (fun k => a2 (ix3 0 r k)) (fun k f => a4 (ix3 (Fin.castLE hn e) k f)) (fun k f => a5 (ix3 (Fin.castLE hn e) k f))
                (fun f => a6 (ix3 (Fin.castLE hn e) f d))
  | 0, _ => by
    rw [Fin.sum_univ_zero, add_zero]
    exact start_apply a2 a3 a7 a8 a9 r d
  | n + 1, hn => by
    have e := trip_apply ⟨n, hn⟩ (iter a4 a5 a6 a2 a3 a7 a8 a9 n) r d
    rw [iter_0, iter_1, iter_2, iter_3, iter_4, comb_apply] at e
    simp only [tok_apply] at e
    refine e.trans (Eq.trans (congrArg (· + _) (iter_apply r d n (by omega))) ?_)
    rw [Fin.sum_univ_castSucc (n := n), ← add_assoc]
    rfl

end Cert.Proof.MoeSRef

end
-- ==== Proof.MoeSEq.lean ====
module

public import proofs.«01_k».proof.Defs
public import proofs.«01_k».proof.Proof.MoeEq
public import proofs.«01_k».proof.Proof.MoeSFold
public import proofs.«01_k».proof.Proof.MoeSRef
public import proofs.«01_k».proof.Proof.Gen.Reference9Ideal.StepRun
public import Idealize.ShloMosaic.Lib.ReduceAll
public import Idealize.ShloMosaic.Lib.Quiescent

/-!
# The experts' kernel equals the experts' reference for the sample batch

A routing weight that is neither negative nor infinite may be multiplied into each activation or into the expert's whole
output; with that the two results are one formula.
-/

@[expose] public section

set_option maxRecDepth 16384

noncomputable section

namespace Cert.Proof.MoeSEq

open Idealize.ShloMosaic Idealize.SL.Sem

/-- The precondition's side conditions. -/
theorem preFacts : Cert.Pre_weights_nonneg_sample.Facts where
  bcast_S_S1x256x64 := by decide
  reducesTo_S1x256x64_S_d0_1_2 := by decide
  h_S_ := by decide

/-- The kernel's routing weights. -/
abbrev wts (m : (ℓ : Loc Kernel9Ideal.nD Kernel9Ideal.τ Kernel9Ideal.sig) → Buf (Elt Ideal) ℓ) (c : Dev Kernel9Ideal.nD) :
    FVec Ideal Kernel9Ideal.S1x256x64 .f32 :=
  m ((c.tc : Thread Kernel9Ideal.nD Kernel9Ideal.τ).loc Kernel9Ideal.main_arg3)

/-- What the precondition says of one routing weight. -/
theorem weight_ok [Cert.Pre_weights_nonneg_sample.Facts] (m : (ℓ : Loc Kernel9Ideal.nD Kernel9Ideal.τ Kernel9Ideal.sig) → Buf (Elt Ideal) ℓ)
    (h : Cert.Pre_Kernel9Ideal_weights_nonneg_sample m) (c : Dev Kernel9Ideal.nD) (r : Fin 256) (e : Fin 64) :
    (0 : EReal) ≤ wts m c (ix3 0 r e) ∧ (wts m c (ix3 0 r e) : EReal) ≠ ⊤ := by
  have h0 := congrFun (h c) (Shape.Idx.first (by decide))
  unfold Cert.Pre_weights_nonneg_sample.fn at h0
  dsimp only at h0
  have : Subsingleton Cert.Pre_weights_nonneg_sample.S_.Idx := ⟨fun a b => funext fun i => i.elim0⟩
  have hall := Host.reduce_andi_all _ _ _ _ _ h0 (ix3 0 r e)
  have hz : Ideal.ofBits .f32 0x00000000#32 = 0 := by simp [Ideal.ofBits, Ideal.ieee]
  have htop : Ideal.ofBits .f32 0x7F800000#32 = ⊤ := by simp [Ideal.ofBits, Ideal.ieee]
  have hx : IntOp.andi (BitVec.ofBool (decide (wts m c (ix3 0 r e) ≥ Ideal.ofBits .f32 0x00000000#32)))
      (BitVec.ofBool (decide (wts m c (ix3 0 r e) < Ideal.ofBits .f32 0x7F800000#32))) = 1#1 := hall
  rw [hz, htop] at hx
  by_cases p : wts m c (ix3 0 r e) ≥ 0 <;> by_cases q : wts m c (ix3 0 r e) < ⊤
  · exact ⟨p, q.ne⟩
  all_goals exfalso; revert hx; simp only [p, q, decide_true, decide_false]; decide

/-- `Cert.quiescent_Reference9Ideal`: the reference ends with its arguments unchanged. -/
theorem frame_ref : Cert.quiescent_Reference9Ideal (hReference9Ideal := Cert.Reference9Ideal.Gen.facts) := fun m ρ _ =>
  (θ_run _ _ _).mono (fun r h => ⟨fun c => (h c).2, sem_eq_zero_of_no_sems (by decide) r.2⟩)
    (Cert.Reference9Ideal.Value.run (F := Ideal) m ρ)

/-- `Cert.algebraic_Kernel9Ideal_Reference9Ideal_pre_weights_nonneg_sample`: with routing weights that are neither negative nor infinite
    the two programs end with equal results. -/
theorem algebraic : Cert.algebraic_Kernel9Ideal_Reference9Ideal_pre_weights_nonneg_sample (hKernel9Ideal := Cert.Kernel9Ideal.Gen.facts)
    (hReference9Ideal := Cert.Reference9Ideal.Gen.facts) (hPre_weights_nonneg_sample := preFacts) := by
  intro m ρ m' ρ' hpre hagree
  haveI := preFacts
  refine ⟨fun c => Cert.Kernel9Ideal.Value.G11 m c, Cert.Kernel9Ideal.Value.run m ρ, ?_⟩
  have hrun := Cert.Reference9Ideal.StepRun.run_iter (F := Ideal) m' ρ'
    (fun c => MoeSRef.iter (m' ((c.tc : Thread Reference9Ideal.nD Reference9Ideal.τ).loc Reference9Ideal.main_arg4))
      (m' ((c.tc : Thread Reference9Ideal.nD Reference9Ideal.τ).loc Reference9Ideal.main_arg5))
      (m' ((c.tc : Thread Reference9Ideal.nD Reference9Ideal.τ).loc Reference9Ideal.main_arg6))
      (m' ((c.tc : Thread Reference9Ideal.nD Reference9Ideal.τ).loc Reference9Ideal.main_arg2))
      (m' ((c.tc : Thread Reference9Ideal.nD Reference9Ideal.τ).loc Reference9Ideal.main_arg3))
      (m' ((c.tc : Thread Reference9Ideal.nD Reference9Ideal.τ).loc Reference9Ideal.main_arg7))
      (m' ((c.tc : Thread Reference9Ideal.nD Reference9Ideal.τ).loc Reference9Ideal.main_arg8))
      (m' ((c.tc : Thread Reference9Ideal.nD Reference9Ideal.τ).loc Reference9Ideal.main_arg9))) (fun c => rfl) (fun c n => rfl)
  refine (θ_run _ _ _).mono (fun _ h c => ⟨(h c).1.trans ?_, (h c).2⟩) hrun
  obtain ⟨a0, a1, a2, a3, a4, a5, a6, a7, a8, a9, a10⟩ := hagree c
  funext i
  obtain ⟨r, d, rfl⟩ : ∃ (r : Fin 256) (d : Fin 1024), i = ix3 0 r d :=
    ⟨i 1, i 2, funext fun a => by match a with | ⟨0, _⟩ => exact Subsingleton.elim (α := Fin 1) _ _ | ⟨1, _⟩ => rfl | ⟨2, _⟩ => rfl⟩
  rw [MoeSRef.R_apply]
  refine Eq.trans ?_ (MoeS.result_apply m c r d).symm
  unfold MoeS.layer
  have hs : ∀ (e : Fin 64) (h : Fin 1024 → EReal) (g u : Fin 1024 → Fin 256 → EReal) (w : Fin 256 → EReal),
      Moe.scaled (wts m c (ix3 0 r e)) h g u w = wts m c (ix3 0 r e) * Moe.ffn h g u w :=
    fun e => MoeEq.scaled_eq _ (weight_ok m hpre c r e).1 (weight_ok m hpre c r e).2
  simp only [MoeSRef.iter_apply _ _ _ _ _ _ _ _ r _ 64 le_rfl, hs,
    a0, a1, a2, a3, a4, a5, a6, a7, a8, a9, a10]
  rfl

end Cert.Proof.MoeSEq

end
-- ==== Proof.lean ====
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Step
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Step
public import proofs.«01_k».proof.Proof.Gen.Reference9Ideal.StepRun
public import proofs.«01_k».proof.Defs
public import proofs.«01_k».proof.Proof.Gen.Kernel.Frame
public import proofs.«01_k».proof.Proof.Gen.KernelIdeal.Frame
public import proofs.«01_k».proof.Proof.MoeEq
public import proofs.«01_k».proof.Proof.RetEq
public import proofs.«01_k».proof.Proof.QkvEq
public import proofs.«01_k».proof.Proof.InEq
public import proofs.«01_k».proof.Proof.OutEq
public import proofs.«01_k».proof.Proof.OutOddEq
public import proofs.«01_k».proof.Proof.QkvSEq
public import proofs.«01_k».proof.Proof.InSEq
public import proofs.«01_k».proof.Proof.MoeSEq

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    MoeEq.preFacts,
    MoeSEq.preFacts,
    fun m ρ _ => Cert.Kernel.Gen.frame m ρ,
    fun m ρ _ => Cert.KernelIdeal.Gen.frame m ρ,
    fun m ρ _ => Cert.KernelIdeal.Gen.frame m ρ,
    MoeEq.frame_ref,
    fun m ρ _ => MoeEq.frame_ref m ρ trivial,
    fun m ρ _ => Cert.Kernel2.Gen.frame m ρ,
    fun m ρ _ => Cert.Kernel2Ideal.Gen.frame m ρ,
    RetEq.frame_ref,
    fun m ρ _ => Cert.Kernel3.Gen.frame m ρ,
    fun m ρ _ => Cert.Kernel3Ideal.Gen.frame m ρ,
    QkvEq.frame_ref,
    fun m ρ _ => Cert.Kernel4.Gen.frame m ρ,
    fun m ρ _ => Cert.Kernel4Ideal.Gen.frame m ρ,
    InEq.frame_ref,
    fun m ρ _ => Cert.Kernel5.Gen.frame m ρ,
    fun m ρ _ => Cert.Kernel5Ideal.Gen.frame m ρ,
    OutEq.frame_ref,
    fun m ρ _ => Cert.Kernel6.Gen.frame m ρ,
    fun m ρ _ => Cert.Kernel6Ideal.Gen.frame m ρ,
    OutOddEq.frame_ref,
    fun m ρ _ => Cert.Kernel7.Gen.frame m ρ,
    fun m ρ _ => Cert.Kernel7Ideal.Gen.frame m ρ,
    QkvSEq.frame_ref,
    fun m ρ _ => Cert.Kernel8.Gen.frame m ρ,
    fun m ρ _ => Cert.Kernel8Ideal.Gen.frame m ρ,
    InSEq.frame_ref,
    fun m ρ _ => Cert.Kernel9.Gen.frame m ρ,
    fun m ρ _ => Cert.Kernel9Ideal.Gen.frame m ρ,
    fun m ρ _ => Cert.Kernel9Ideal.Gen.frame m ρ,
    MoeSEq.frame_ref,
    fun m ρ _ => MoeSEq.frame_ref m ρ trivial,
    trivial,
    MoeEq.algebraic,
    trivial,
    RetEq.algebraic,
    trivial,
    QkvEq.algebraic,
    trivial,
    InEq.algebraic,
    trivial,
    OutEq.algebraic,
    trivial,
    OutOddEq.algebraic,
    trivial,
    QkvSEq.algebraic,
    trivial,
    InSEq.algebraic,
    trivial,
    MoeSEq.algebraic⟩

end Cert.Proof

end
